-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.SelectZeroStatement Cert.KernelIdeal.S8x128

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43_0) = v0 c
          ∧ r.2.mem ((c.tc : Thread Cert.ReferenceIdeal.nD Cert.ReferenceIdeal.τ).loc Cert.ReferenceIdeal.main_v43_1) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ preserves_Kernel_KernelIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S4x8x4718592 : Shape := ⟨3, ![4, 8, 4718592]⟩
abbrev S4608x3072 : Shape := ⟨2, ![4608, 3072]⟩
abbrev S3072 : Shape := ⟨1, ![3072]⟩
abbrev S8192x3072 : Shape := ⟨2, ![8192, 3072]⟩
abbrev S_ : Shape := ⟨0, ![]⟩

class Facts : Prop where
  bcast_S_S4x8x4718592 : S_.BroadcastsInDim S4x8x4718592 (![] : Fin 0 → Fin S4x8x4718592.rank)

variable [Facts]

def fn {F : FTy → Type} [FloatOps F] (main_arg0 : FVec F S4x8x4718592 .bf16) (main_arg1 : FVec F S4608x3072 .fp8e4m3) (main_arg2 : FVec F S3072 .f32) (main_arg3 : FVec F S3072 .f32) (main_arg4 : FVec F S8192x3072 .bf16) : IVec S4x8x4718592 1 :=
  let main_v0 : FVec F S4x8x4718592 .bf16 := Host.absf main_arg0
  let main_cst : FVec F S_ .bf16 := constant S_ .bf16 0x7F7F#16
  let main_v1 : FVec F S4x8x4718592 .bf16 := broadcastInDim S4x8x4718592 ![] bcast_S_S4x8x4718592 main_cst
  let main_v2 : IVec S4x8x4718592 1 := cmpf .ole main_v0 main_v1
  let main_cst_0 : FVec F S_ .bf16 := constant S_ .bf16 0x7F80#16
  let main_v3 : FVec F S4x8x4718592 .bf16 := broadcastInDim S4x8x4718592 ![] bcast_S_S4x8x4718592 main_cst_0
  let main_v4 : IVec S4x8x4718592 1 := cmpf .oeq main_v0 main_v3
  let main_v5 : IVec S4x8x4718592 1 := ori main_v2 main_v4
  main_v5
-- ==== Kernel.lean ====
abbrev S4x8x4718592 : Shape := ⟨3, ![4, 8, 4718592]⟩
abbrev S4608x3072 : Shape := ⟨2, ![4608, 3072]⟩
abbrev S3072 : Shape := ⟨1, ![3072]⟩
abbrev S8192x3072 : Shape := ⟨2, ![8192, 3072]⟩
abbrev S4x8x36864x128 : Shape := ⟨4, ![4, 8, 36864, 128]⟩
abbrev S4x36864x8x128 : Shape := ⟨4, ![4, 36864, 8, 128]⟩
abbrev S147456x8x128 : Shape := ⟨3, ![147456, 8, 128]⟩
abbrev S1x3072 : Shape := ⟨2, ![1, 3072]⟩
abbrev S4x8192x3072 : Shape := ⟨3, ![4, 8192, 3072]⟩
abbrev S4x8192x4608 : Shape := ⟨3, ![4, 8192, 4608]⟩
abbrev S4x1x8192 : Shape := ⟨3, ![4, 1, 8192]⟩
abbrev S2304x8x128 : Shape := ⟨3, ![2304, 8, 128]⟩
abbrev S512x3072 : Shape := ⟨2, ![512, 3072]⟩
abbrev S1x512x3072 : Shape := ⟨3, ![1, 512, 3072]⟩
abbrev S1x512x4608 : Shape := ⟨3, ![1, 512, 4608]⟩
abbrev S1x1x512 : Shape := ⟨3, ![1, 1, 512]⟩
abbrev S512x128 : Shape := ⟨2, ![512, 128]⟩
abbrev S8x128 : Shape := ⟨2, ![8, 128]⟩
abbrev S2304x4x128 : Shape := ⟨3, ![2304, 4, 128]⟩
abbrev S8x1x128 : Shape := ⟨3, ![8, 1, 128]⟩
abbrev S8x2x128 : Shape := ⟨3, ![8, 2, 128]⟩
abbrev S16x128 : Shape := ⟨2, ![16, 128]⟩
abbrev S8 : Shape := ⟨1, ![8]⟩
abbrev S8x1 : Shape := ⟨2, ![8, 1]⟩
abbrev S32x128 : Shape := ⟨2, ![32, 128]⟩
abbrev S1x32x128 : Shape := ⟨3, ![1, 32, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S512x4608 : Shape := ⟨2, ![512, 4608]⟩
abbrev S4608x512 : Shape := ⟨2, ![4608, 512]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 13
  | .vmem => 14
  | .smem => 0
  | _ => 0

abbrev bufTy : (tb : Table) → Fin (tcTables nBuf tb) → BufTy
  | .hbm, ⟨0, _⟩ => ⟨S4x8x4718592, .bf16⟩
  | .hbm, ⟨1, _⟩ => ⟨S4608x3072, .fp8e4m3⟩
  | .hbm, ⟨2, _⟩ => ⟨S3072, .f32⟩
  | .hbm, ⟨3, _⟩ => ⟨S3072, .f32⟩
  | .hbm, ⟨4, _⟩ => ⟨S8192x3072, .bf16⟩
  | .hbm, ⟨5, _⟩ => ⟨S4x8x36864x128, .bf16⟩
  | .hbm, ⟨6, _⟩ => ⟨S4x36864x8x128, .bf16⟩
  | .hbm, ⟨7, _⟩ => ⟨S147456x8x128, .bf16⟩
  | .hbm, ⟨8, _⟩ => ⟨S1x3072, .f32⟩
  | .hbm, ⟨9, _⟩ => ⟨S1x3072, .f32⟩
  | .hbm, ⟨10, _⟩ => ⟨S4x8192x3072, .bf16⟩
  | .hbm, ⟨11, _⟩ => ⟨S4x8192x4608, .fp8e4m3⟩
  | .hbm, ⟨12, _⟩ => ⟨S4x1x8192, .f32⟩
  | .local _ .vmem, ⟨0, _⟩ => ⟨S2304x8x128, .bf16⟩
  | .local _ .vmem, ⟨1, _⟩ => ⟨S2304x8x128, .bf16⟩
  | .local _ .vmem, ⟨2, _⟩ => ⟨S4608x3072, .fp8e4m3⟩
  | .local _ .vmem, ⟨3, _⟩ => ⟨S1x3072, .f32⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | .local _ .vmem, ⟨7, _⟩ => ⟨S1x512x3072, .bf16⟩
  | .local _ .vmem, ⟨8, _⟩ => ⟨S1x512x3072, .bf16⟩
  | .local _ .vmem, ⟨9, _⟩ => ⟨S1x512x4608, .fp8e4m3⟩
  | .local _ .vmem, ⟨10, _⟩ => ⟨S1x512x4608, .fp8e4m3⟩
  | .local _ .vmem, ⟨11, _⟩ => ⟨S1x1x512, .f32⟩
  | .local _ .vmem, ⟨12, _⟩ => ⟨S1x1x512, .f32⟩
  | .local _ .vmem, ⟨13, _⟩ => ⟨S512x128, .f32⟩
  | _, _ => ⟨S4x8x4718592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨2, ![16, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  v171
def k0_off1 (k0_t1 : Fin k0_t1_loop.trips) (c0_i32_121 : BitVec 32) (c4_i32 : BitVec 32) : Fin 3 → Nat :=
  let c0_i32 : BitVec 32 := 0#32
  let c1_i32 : BitVec 32 := 1#32
  let arg11 : BitVec 32 := Scf.iv c0_i32 c1_i32 k0_t1
  let c2_i32 : BitVec 32 := 2#32
  let v173 : BitVec 32 := Scalar.muli arg11 c2_i32
  let v174 : BitVec 32 := Scalar.addi v173 c0_i32_121
  let c72_i32 : BitVec 32 := 72#32
  let v175 : BitVec 32 := Scalar.muli v174 c72_i32
  let v179 : BitVec 32 := Scalar.addi v175 c4_i32
  let v181 : Index := Scalar.indexCast v179
  let c0_123 : Index := 0#32
  ![v181.toNat, 0, 0]
def k0_off2 (k0_t1 : Fin k0_t1_loop.trips) (c0_i32_121 : BitVec 32) (c4_i32_124 : BitVec 32) : Fin 3 → Nat :=
  let c0_i32 : BitVec 32 := 0#32
  let c1_i32 : BitVec 32 := 1#32
  let arg11 : BitVec 32 := Scf.iv c0_i32 c1_i32 k0_t1
  let c2_i32 : BitVec 32 := 2#32
  let v173 : BitVec 32 := Scalar.muli arg11 c2_i32
  let v174 : BitVec 32 := Scalar.addi v173 c0_i32_121
  let c72_i32 : BitVec 32 := 72#32
  let v175 : BitVec 32 := Scalar.muli v174 c72_i32
  let v186 : BitVec 32 := Scalar.addi v175 c4_i32_124
  let v188 : Index := Scalar.indexCast v186
  let c0_125 : Index := 0#32
  ![v188.toNat, 2, 0]
def k0_off3 (k0_t1 : Fin k0_t1_loop.trips) (c0_i32_121 : BitVec 32) (c4_i32_126 : BitVec 32) : Fin 3 → Nat :=
  let c0_i32 : BitVec 32 := 0#32
  let c1_i32 : BitVec 32 := 1#32
  let arg11 : BitVec 32 := Scf.iv c0_i32 c1_i32 k0_t1
  let c2_i32 : BitVec 32 := 2#32
  let v173 : BitVec 32 := Scalar.muli arg11 c2_i32
  let v174 : BitVec 32 := Scalar.addi v173 c0_i32_121
  let c72_i32 : BitVec 32 := 72#32
  let v175 : BitVec 32 := Scalar.muli v174 c72_i32
  let v194 : BitVec 32 := Scalar.addi v175 c4_i32_126
  let v196 : Index := Scalar.indexCast v194
  let c0_127 : Index := 0#32
  ![v196.toNat, 4, 0]
def k0_off4 (k0_t1 : Fin k0_t1_loop.trips) (c0_i32_121 : BitVec 32) (c4_i32_128 : BitVec 32) : Fin 3 → Nat :=
  let c0_i32 : BitVec 32 := 0#32
  let c1_i32 : BitVec 32 := 1#32
  let arg11 : BitVec 32 := Scf.iv c0_i32 c1_i32 k0_t1
  let c2_i32 : BitVec 32 := 2#32
  let v173 : BitVec 32 := Scalar.muli arg11 c2_i32
  let v174 : BitVec 32 := Scalar.addi v173 c0_i32_121
  let c72_i32 : BitVec 32 := 72#32
  let v175 : BitVec 32 := Scalar.muli v174 c72_i32
  let v202 : BitVec 32 := Scalar.addi v175 c4_i32_128
  let v204 : Index := Scalar.indexCast v202
  let c0_129 : Index := 0#32
  ![v204.toNat, 6, 0]
def k0_off5 (k0_t1 : Fin k0_t1_loop.trips) (c0_i32_291 : BitVec 32) : Fin 2 → Nat :=
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v684 : BitVec 32 := Scalar.addi v172 c0_i32_291
  let v685 : Index := Scalar.indexCast v684
  let c0_292 : Index := 0#32
  ![v685.toNat, 0]
def k0_off6 (k0_t1 : Fin k0_t1_loop.trips) (c0_i32_293 : BitVec 32) : Fin 2 → Nat :=
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v690 : BitVec 32 := Scalar.addi v172 c0_i32_293
  let c1_i32_294 : BitVec 32 := 1#32
  let v691 : BitVec 32 := Scalar.addi v690 c1_i32_294
  let v692 : Index := Scalar.indexCast v691
  let c0_295 : Index := 0#32
  ![v692.toNat, 0]
def k0_off7 (k0_t1 : Fin k0_t1_loop.trips) : Fin 3 → Nat :=
  let c0_1170 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3149 : Index := Scalar.indexCast v172
  let c0_1171 : Index := 0#32
  ![0, v3149.toNat, 0]
def k0_off8 (k0_t1 : Fin k0_t1_loop.trips) : Fin 3 → Nat :=
  let c0_1172 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3155 : Index := Scalar.indexCast v172
  let c128_1173 : Index := 128#32
  ![0, v3155.toNat, 128]
def k0_off9 (k0_t1 : Fin k0_t1_loop.trips) : Fin 3 → Nat :=
  let c0_1174 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3161 : Index := Scalar.indexCast v172
  let c256_1175 : Index := 256#32
  ![0, v3161.toNat, 256]
def k0_off10 (k0_t1 : Fin k0_t1_loop.trips) : Fin 3 → Nat :=
  let c0_1176 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3167 : Index := Scalar.indexCast v172
  let c384_1177 : Index := 384#32
  ![0, v3167.toNat, 384]
def k0_off11 (k0_t1 : Fin k0_t1_loop.trips) : Fin 3 → Nat :=
  let c0_1178 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3173 : Index := Scalar.indexCast v172
  let c512_1179 : Index := 512#32
  ![0, v3173.toNat, 512]
def k0_off12 (k0_t1 : Fin k0_t1_loop.trips) : Fin 3 → Nat :=
  let c0_1180 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3179 : Index := Scalar.indexCast v172
  let c640 : Index := 640#32
  ![0, v3179.toNat, 640]
def k0_off13 (k0_t1 : Fin k0_t1_loop.trips) : Fin 3 → Nat :=
  let c0_1181 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3185 : Index := Scalar.indexCast v172
  let c768 : Index := 768#32
  ![0, v3185.toNat, 768]
def k0_off14 (k0_t1 : Fin k0_t1_loop.trips) : Fin 3 → Nat :=
  let c0_1182 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3191 : Index := Scalar.indexCast v172
  let c896 : Index := 896#32
  ![0, v3191.toNat, 896]
def k0_off15 (k0_t1 : Fin k0_t1_loop.trips) : Fin 3 → Nat :=
  let c0_1183 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3197 : Index := Scalar.indexCast v172
  let c1024_1184 : Index := 1024#32
  ![0, v3197.toNat, 1024]
def k0_off16 (k0_t1 : Fin k0_t1_loop.trips) : Fin 3 → Nat :=
  let c0_1185 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3203 : Index := Scalar.indexCast v172
  let c1152 : Index := 1152#32
  ![0, v3203.toNat, 1152]
def k0_off17 (k0_t1 : Fin k0_t1_loop.trips) : Fin 3 → Nat :=
  let c0_1186 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3209 : Index := Scalar.indexCast v172
  let c1280 : Index := 1280#32
  ![0, v3209.toNat, 1280]
def k0_off18 (k0_t1 : Fin k0_t1_loop.trips) : Fin 3 → Nat :=
  let c0_1187 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3215 : Index := Scalar.indexCast v172
  let c1408 : Index := 1408#32
  ![0, v3215.toNat, 1408]
def k0_off19 (k0_t1 : Fin k0_t1_loop.trips) : Fin 3 → Nat :=
  let c0_1188 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3221 : Index := Scalar.indexCast v172
  let c1536_1189 : Index := 1536#32
  ![0, v3221.toNat, 1536]
def k0_off20 (k0_t1 : Fin k0_t1_loop.trips) : Fin 3 → Nat :=
  let c0_1190 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3227 : Index := Scalar.indexCast v172
  let c1664 : Index := 1664#32
  ![0, v3227.toNat, 1664]
def k0_off21 (k0_t1 : Fin k0_t1_loop.trips) : Fin 3 → Nat :=
  let c0_1191 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3233 : Index := Scalar.indexCast v172
  let c1792 : Index := 1792#32
  ![0, v3233.toNat, 1792]
def k0_off22 (k0_t1 : Fin k0_t1_loop.trips) : Fin 3 → Nat :=
  let c0_1192 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3239 : Index := Scalar.indexCast v172
  let c1920 : Index := 1920#32
  ![0, v3239.toNat, 1920]
def k0_off23 (k0_t1 : Fin k0_t1_loop.trips) : Fin 3 → Nat :=
  let c0_1193 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3245 : Index := Scalar.indexCast v172
  let c2048_1194 : Index := 2048#32
  ![0, v3245.toNat, 2048]
def k0_off24 (k0_t1 : Fin k0_t1_loop.trips) : Fin 3 → Nat :=
  let c0_1195 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3251 : Index := Scalar.indexCast v172
  let c2176 : Index := 2176#32
  ![0, v3251.toNat, 2176]
def k0_off25 (k0_t1 : Fin k0_t1_loop.trips) : Fin 3 → Nat :=
  let c0_1196 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3257 : Index := Scalar.indexCast v172
  let c2304 : Index := 2304#32
  ![0, v3257.toNat, 2304]
def k0_off26 (k0_t1 : Fin k0_t1_loop.trips) : Fin 3 → Nat :=
  let c0_1197 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3263 : Index := Scalar.indexCast v172
  let c2432 : Index := 2432#32
  ![0, v3263.toNat, 2432]
def k0_off27 (k0_t1 : Fin k0_t1_loop.trips) : Fin 3 → Nat :=
  let c0_1198 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3269 : Index := Scalar.indexCast v172
  let c2560_1199 : Index := 2560#32
  ![0, v3269.toNat, 2560]
def k0_off28 (k0_t1 : Fin k0_t1_loop.trips) : Fin 3 → Nat :=
  let c0_1200 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3275 : Index := Scalar.indexCast v172
  let c2688 : Index := 2688#32
  ![0, v3275.toNat, 2688]
def k0_off29 (k0_t1 : Fin k0_t1_loop.trips) : Fin 3 → Nat :=
  let c0_1201 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3281 : Index := Scalar.indexCast v172
  let c2816 : Index := 2816#32
  ![0, v3281.toNat, 2816]
def k0_off30 (k0_t1 : Fin k0_t1_loop.trips) : Fin 3 → Nat :=
  let c0_1202 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3287 : Index := Scalar.indexCast v172
  let c2944 : Index := 2944#32
  ![0, v3287.toNat, 2944]
def k0_off31 (k0_t1 : Fin k0_t1_loop.trips) : Fin 3 → Nat :=
  let c0_1203 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3293 : Index := Scalar.indexCast v172
  let c3072 : Index := 3072#32
  ![0, v3293.toNat, 3072]
def k0_off32 (k0_t1 : Fin k0_t1_loop.trips) : Fin 3 → Nat :=
  let c0_1204 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3299 : Index := Scalar.indexCast v172
  let c3200 : Index := 3200#32
  ![0, v3299.toNat, 3200]
def k0_off33 (k0_t1 : Fin k0_t1_loop.trips) : Fin 3 → Nat :=
  let c0_1205 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3305 : Index := Scalar.indexCast v172
  let c3328 : Index := 3328#32
  ![0, v3305.toNat, 3328]
def k0_off34 (k0_t1 : Fin k0_t1_loop.trips) : Fin 3 → Nat :=
  let c0_1206 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3311 : Index := Scalar.indexCast v172
  let c3456 : Index := 3456#32
  ![0, v3311.toNat, 3456]
def k0_off35 (k0_t1 : Fin k0_t1_loop.trips) : Fin 3 → Nat :=
  let c0_1207 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3317 : Index := Scalar.indexCast v172
  let c3584 : Index := 3584#32
  ![0, v3317.toNat, 3584]
def k0_off36 (k0_t1 : Fin k0_t1_loop.trips) : Fin 3 → Nat :=
  let c0_1208 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3323 : Index := Scalar.indexCast v172
  let c3712 : Index := 3712#32
  ![0, v3323.toNat, 3712]
def k0_off37 (k0_t1 : Fin k0_t1_loop.trips) : Fin 3 → Nat :=
  let c0_1209 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3329 : Index := Scalar.indexCast v172
  let c3840 : Index := 3840#32
  ![0, v3329.toNat, 3840]
def k0_off38 (k0_t1 : Fin k0_t1_loop.trips) : Fin 3 → Nat :=
  let c0_1210 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3335 : Index := Scalar.indexCast v172
  let c3968 : Index := 3968#32
  ![0, v3335.toNat, 3968]
def k0_off39 (k0_t1 : Fin k0_t1_loop.trips) : Fin 3 → Nat :=
  let c0_1211 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3341 : Index := Scalar.indexCast v172
  let c4096 : Index := 4096#32
  ![0, v3341.toNat, 4096]
def k0_off40 (k0_t1 : Fin k0_t1_loop.trips) : Fin 3 → Nat :=
  let c0_1212 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3347 : Index := Scalar.indexCast v172
  let c4224 : Index := 4224#32
  ![0, v3347.toNat, 4224]
def k0_off41 (k0_t1 : Fin k0_t1_loop.trips) : Fin 3 → Nat :=
  let c0_1213 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3353 : Index := Scalar.indexCast v172
  let c4352 : Index := 4352#32
  ![0, v3353.toNat, 4352]
def k0_off42 (k0_t1 : Fin k0_t1_loop.trips) : Fin 3 → Nat :=
  let c0_1214 : Index := 0#32
  let c0_i32 : BitVec 32 := 0#32
  let c1_i32 : BitVec 32 := 1#32
  let arg11 : BitVec 32 := Scf.iv c0_i32 c1_i32 k0_t1
  let c32_i32 : BitVec 32 := 32#32
  let v171 : BitVec 32 := Scalar.muli arg11 c32_i32
  let v172 : BitVec 32 := v171
  let v3359 : Index := Scalar.indexCast v172
  let c4480 : Index := 4480#32
  ![0, v3359.toNat, 4480]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S2304x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4608x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x4608 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F]
-- ==== ReferenceIdeal.lean ====
abbrev S4x8x4718592 : Shape := ⟨3, ![4, 8, 4718592]⟩
abbrev S4608x3072 : Shape := ⟨2, ![4608, 3072]⟩
abbrev S3072 : Shape := ⟨1, ![3072]⟩
abbrev S8192x3072 : Shape := ⟨2, ![8192, 3072]⟩
abbrev S4x8x8192x576 : Shape := ⟨4, ![4, 8, 8192, 576]⟩
abbrev S_ : Shape := ⟨0, ![]⟩
abbrev S4x8192 : Shape := ⟨2, ![4, 8192]⟩
abbrev S254 : Shape := ⟨1, ![254]⟩
abbrev S4x8192x1 : Shape := ⟨3, ![4, 8192, 1]⟩
abbrev S1x1x254 : Shape := ⟨3, ![1, 1, 254]⟩
abbrev S4x8192x254 : Shape := ⟨3, ![4, 8192, 254]⟩
abbrev S4x1x8192 : Shape := ⟨3, ![4, 1, 8192]⟩
abbrev S4x1x8192x1 : Shape := ⟨4, ![4, 1, 8192, 1]⟩
abbrev S4x8192x8x576 : Shape := ⟨4, ![4, 8192, 8, 576]⟩
abbrev S4x8192x4608 : Shape := ⟨3, ![4, 8192, 4608]⟩
abbrev S1x1x3072 : Shape := ⟨3, ![1, 1, 3072]⟩
abbrev S4x8192x3072 : Shape := ⟨3, ![4, 8192, 3072]⟩
abbrev S32768x4608 : Shape := ⟨2, ![32768, 4608]⟩
abbrev S32768x3072 : Shape := ⟨2, ![32768, 3072]⟩
abbrev S1x8192x3072 : Shape := ⟨3, ![1, 8192, 3072]⟩

abbrev nBuf : Space → Nat
  | .hbm => 74
  | .vmem => 8
  | .smem => 0
  | _ => 0

abbrev bufTy : (tb : Table) → Fin (tcTables nBuf tb) → BufTy
  | .hbm, ⟨0, _⟩ => ⟨S4x8x4718592, .bf16⟩
  | .hbm, ⟨1, _⟩ => ⟨S4608x3072, .fp8e4m3⟩
  | .hbm, ⟨2, _⟩ => ⟨S3072, .f32⟩
  | .hbm, ⟨3, _⟩ => ⟨S3072, .f32⟩
  | .hbm, ⟨4, _⟩ => ⟨S8192x3072, .bf16⟩
  | .hbm, ⟨5, _⟩ => ⟨S4x8x8192x576, .bf16⟩
  | .hbm, ⟨6, _⟩ => ⟨S4x8x8192x576, .bf16⟩
  | .hbm, ⟨7, _⟩ => ⟨S_, .bf16⟩
  | .hbm, ⟨8, _⟩ => ⟨S4x8192, .bf16⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S254, .i32⟩
  | .hbm, ⟨14, _⟩ => ⟨S_, .i32⟩
  | .hbm, ⟨15, _⟩ => ⟨S254, .i32⟩
  | .hbm, ⟨16, _⟩ => ⟨S254, .i32⟩
  | .hbm, ⟨17, _⟩ => ⟨S254, .f32⟩
  | .hbm, ⟨18, _⟩ => ⟨S4x8192x1, .f32⟩
  | .hbm, ⟨19, _⟩ => ⟨S_, .f32⟩
  | .hbm, ⟨20, _⟩ => ⟨S254, .f32⟩
  | .hbm, ⟨21, _⟩ => ⟨S254, .f32⟩
  | .hbm, ⟨22, _⟩ => ⟨S1x1x254, .f32⟩
  | .hbm, ⟨23, _⟩ => ⟨S4x8192x254, .f32⟩
  | .hbm, ⟨24, _⟩ => ⟨S4x8192x254, .f32⟩
  | .hbm, ⟨25, _⟩ => ⟨S4x8192x254, .i1⟩
  | .hbm, ⟨26, _⟩ => ⟨S_, .f32⟩
  | .hbm, ⟨27, _⟩ => ⟨S254, .f32⟩
  | .hbm, ⟨28, _⟩ => ⟨S254, .f32⟩
  | .hbm, ⟨29, _⟩ => ⟨S_, .f32⟩
  | .hbm, ⟨30, _⟩ => ⟨S_, .f32⟩
  | .hbm, ⟨31, _⟩ => ⟨S4x8192x254, .f32⟩
  | .hbm, ⟨32, _⟩ => ⟨S4x8192x254, .f32⟩
  | .hbm, ⟨33, _⟩ => ⟨S4x8192x254, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S4x8192, .i1⟩
  | .hbm, ⟨42, _⟩ => ⟨S4x8192, .i1⟩
  | .hbm, ⟨43, _⟩ => ⟨S_, .f32⟩
  | .hbm, ⟨44, _⟩ => ⟨S_, .f32⟩
  | .hbm, ⟨45, _⟩ => ⟨S4x8192, .f32⟩
  | .hbm, ⟨46, _⟩ => ⟨S4x8192, .f32⟩
  | .hbm, ⟨47, _⟩ => ⟨S_, .f32⟩
  | .hbm, ⟨48, _⟩ => ⟨S4x8192, .f32⟩
  | .hbm, ⟨49, _⟩ => ⟨S4x8192, .f32⟩
  | .hbm, ⟨50, _⟩ => ⟨S4x1x8192, .f32⟩
  | .hbm, ⟨51, _⟩ => ⟨S4x8x8192x576, .f32⟩
  | .hbm, ⟨52, _⟩ => ⟨S4x8192, .f32⟩
  | .hbm, ⟨53, _⟩ => ⟨S_, .f32⟩
  | .hbm, ⟨54, _⟩ => ⟨S4x8192, .f32⟩
  | .hbm, ⟨55, _⟩ => ⟨S4x8192, .f32⟩
  | .hbm, ⟨56, _⟩ => ⟨S4x1x8192x1, .f32⟩
  | .hbm, ⟨57, _⟩ => ⟨S4x8x8192x576, .f32⟩
  | .hbm, ⟨58, _⟩ => ⟨S4x8x8192x576, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4x8x8192x576, .f32⟩
  | .hbm, ⟨63, _⟩ => ⟨S4x8x8192x576, .f32⟩
  | .hbm, ⟨64, _⟩ => ⟨S_, .f32⟩
  | .hbm, ⟨65, _⟩ => ⟨S4x8x8192x576, .f32⟩
  | .hbm, ⟨66, _⟩ => ⟨S4x8x8192x576, .f32⟩
  | .hbm, ⟨67, _⟩ => ⟨S4x8192x8x576, .f32⟩
  | .hbm, ⟨68, _⟩ => ⟨S4x8192x4608, .f32⟩
  | .hbm, ⟨69, _⟩ => ⟨S4x8192x1, .f32⟩
  | .hbm, ⟨70, _⟩ => ⟨S1x1x3072, .f32⟩
  | .hbm, ⟨71, _⟩ => ⟨S1x1x3072, .f32⟩
  | .hbm, ⟨72, _⟩ => ⟨S4x8192x3072, .bf16⟩
  | .hbm, ⟨73, _⟩ => ⟨S4x8192x4608, .fp8e4m3⟩
  | .local _ .vmem, ⟨0, _⟩ => ⟨S4x8192x4608, .f32⟩
  | .local _ .vmem, ⟨1, _⟩ => ⟨S4608x3072, .fp8e4m3⟩
  | .local _ .vmem, ⟨2, _⟩ => ⟨S4x8192x1, .f32⟩
  | .local _ .vmem, ⟨3, _⟩ => ⟨S1x1x3072, .f32⟩
  | .local _ .vmem, ⟨4, _⟩ => ⟨S1x1x3072, .f32⟩
  | .local _ .vmem, ⟨5, _⟩ => ⟨S8192x3072, .bf16⟩
  | .local _ .vmem, ⟨6, _⟩ => ⟨S4x8192x3072, .bf16⟩
  | .local _ .vmem, ⟨7, _⟩ => ⟨S4x8192x4608, .fp8e4m3⟩
  | _, _ => ⟨S4x8x4718592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_cst_11 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x8192x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x4608 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- What a memref's buffer on core `c` can hold, and the buffer held whole at some contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The token-group loop by its invariant: the window of the signal unchanged, the codes and the scratch of scales at anything. -/
@[sl_loop, instance_reducible] def loopInv (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole) (X : Bf (F := F) c arg2) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 where
  inv := fun k acc => iprop(pt c arg2 X ∗ (∃ f, pt c arg8 f) ∗ (∃ f, pt c arg10 f))
  step k acc := by
    unfold k0_t1_body
    iintro ⟨H2, ⟨%f8, H8⟩, ⟨%f10, H10⟩⟩
    sl_exec_parts
    sl_step
    isplitl [H2]; · iexact H2
    isplitl [H8]; · iexists _; iexact H8
    iexists _; iexact H10

/-- The body on whole memrefs runs and hands the inputs back as they were. -/
theorem sound_kernel (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole)
    (x2 : Vec F S2304x8x128 .bf16) (x3 : Vec F S4608x3072 .fp8e4m3) (x4 x5 : Vec F S1x3072 .f32) (x6 : Vec F S512x3072 .bf16) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (∃ f, pt (F := F) c arg10 f)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (∃ f, pt (F := F) c arg10 f)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  unfold owns
  simp only [harg2.set_eq_univ, harg3.set_eq_univ, harg4.set_eq_univ, harg5.set_eq_univ, harg6.set_eq_univ, harg7.set_eq_univ, harg8.set_eq_univ, harg9.set_eq_univ]
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%f10, H10⟩, Hk⟩
  subst h2 h3 h4 h5 h6
  sl_unfold [cc0__kernel]
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _; iexact H10

variable (m : (ℓ : Loc nD τ sig) → Buf (Elt F) ℓ) (ρ : Dev nD → PrngReg)

/-- The outputs, whose contents the frame does not describe. -/
def forgets : Fin cfg0.W → Bool := fun w => match w with
  | ⟨0, _⟩ => false | ⟨1, _⟩ => false | ⟨2, _⟩ => false | ⟨3, _⟩ => false | ⟨4, _⟩ => false | ⟨5, _⟩ => true | ⟨6, _⟩ => true | ⟨7, _⟩ => true

/-- The proof data: the inputs' buffers keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

theorem PhiA_eq (c : Dev nD) : (Pipeline.ΦA spec0 c : sProp 𝕄)
    = iprop((∃ f : Buf (Elt F) ((c : Thread nD τ).loc cc0_scratch0), ((c : Thread nD τ).loc cc0_scratch0) ↦{fullShare} f) ∗ ∃ r, prngReg c r) := by
  unfold Pipeline.ΦA; rw [scopedRest0_eq]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨HS, Hg⟩, Ho, ⟨%d0, H0⟩, ⟨%d1, H1⟩, ⟨%d2, H2⟩, ⟨%d3, H3⟩, ⟨%d4, H4⟩, H5, H6, H7⟩
  iapply (sound_kernel c Set.univ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution terminates, the arrays the frame speaks of as they were, every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter reads zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans ((A_eq m c 4).trans (V_main_arg4 m c))⟩, h.2⟩) (run_main m ρ)

end Cert.Proof.Kernel

end
-- ==== Proof.KernelIdealFrame.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a memref's buffer on core `c` can hold, and the buffer held whole at some contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The token-group loop by its invariant: the window of the signal unchanged, the codes and the scratch of scales at anything. -/
@[sl_loop, instance_reducible] def loopInv (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole) (X : Bf (F := F) c arg2) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 where
  inv := fun k acc => iprop(pt c arg2 X ∗ (∃ f, pt c arg8 f) ∗ (∃ f, pt c arg10 f))
  step k acc := by
    unfold k0_t1_body
    iintro ⟨H2, ⟨%f8, H8⟩, ⟨%f10, H10⟩⟩
    sl_exec_parts
    sl_step
    isplitl [H2]; · iexact H2
    isplitl [H8]; · iexists _; iexact H8
    iexists _; iexact H10

/-- The body on whole memrefs runs and hands the inputs back as they were. -/
theorem sound_kernel (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole)
    (x2 : Vec F S2304x8x128 .bf16) (x3 : Vec F S4608x3072 .fp8e4m3) (x4 x5 : Vec F S1x3072 .f32) (x6 : Vec F S512x3072 .bf16) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (∃ f, pt (F := F) c arg10 f)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (∃ f, pt (F := F) c arg10 f)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  unfold owns
  simp only [harg2.set_eq_univ, harg3.set_eq_univ, harg4.set_eq_univ, harg5.set_eq_univ, harg6.set_eq_univ, harg7.set_eq_univ, harg8.set_eq_univ, harg9.set_eq_univ]
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%f10, H10⟩, Hk⟩
  subst h2 h3 h4 h5 h6
  sl_unfold [cc0__kernel]
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _; iexact H10

variable (m : (ℓ : Loc nD τ sig) → Buf (Elt F) ℓ) (ρ : Dev nD → PrngReg)

/-- The outputs, whose contents the frame does not describe. -/
def forgets : Fin cfg0.W → Bool := fun w => match w with
  | ⟨0, _⟩ => false | ⟨1, _⟩ => false | ⟨2, _⟩ => false | ⟨3, _⟩ => false | ⟨4, _⟩ => false | ⟨5, _⟩ => true | ⟨6, _⟩ => true | ⟨7, _⟩ => true

/-- The proof data: the inputs' buffers keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

theorem PhiA_eq (c : Dev nD) : (Pipeline.ΦA spec0 c : sProp 𝕄)
    = iprop((∃ f : Buf (Elt F) ((c : Thread nD τ).loc cc0_scratch0), ((c : Thread nD τ).loc cc0_scratch0) ↦{fullShare} f) ∗ ∃ r, prngReg c r) := by
  unfold Pipeline.ΦA; rw [scopedRest0_eq]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨HS, Hg⟩, Ho, ⟨%d0, H0⟩, ⟨%d1, H1⟩, ⟨%d2, H2⟩, ⟨%d3, H3⟩, ⟨%d4, H4⟩, H5, H6, H7⟩
  iapply (sound_kernel c Set.univ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution terminates, the arrays the frame speaks of as they were, every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter reads zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans ((A_eq m c 4).trans (V_main_arg4 m c))⟩, h.2⟩) (run_main m ρ)

end Cert.Proof.KernelIdeal

end
-- ==== Proof.Trip.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a memref's buffer on core `c` can hold, and the buffer held whole at some contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One trip of the token-group loop: the pieces it stores into the codes and into the scratch of scales are found by the run. -/
@[irreducible] def trip (c : Dev nD) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole)
    (X : Bf (F := F) c arg2) (k : Fin k0_t1_loop.trips) :
    Σ' L8 : List (View.Piece (Elt F) S1x512x4608 .fp8e4m3), { L10 : List (View.Piece (Elt F) S512x128 .f32) //
      ∀ (E : Set ℕ) (f8 : Bf (F := F) c arg8) (f10 : Bf (F := F) c arg10),
      iprop(pt c arg2 X ∗ pt c arg8 f8 ∗ pt c arg10 f10)
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 k PUnit.unit)
          (fun _ => iprop(pt c arg2 X ∗ pt c arg8 (arg8.view.writes (Elt F) f8 L8) ∗ pt c arg10 (arg10.view.writes (Elt F) f10 L10))) } := by
  refine ⟨?_, ?_, fun E f8 f10 => ?run⟩
  case run =>
    unfold k0_t1_body
    iintro ⟨H2, H8, H10⟩
    sl_exec_parts
    sl_step
    sl_close

end Cert.Proof.KI
end
-- ==== Proof.Tiles.lean ====
module

public import proofs.«01_k».proof.Proof.Gen.KernelIdeal.Skeleton
public import Idealize.ShloMosaic.Lib.Pointwise

@[expose] public section

set_option maxRecDepth 16384

noncomputable section

/-! The kernel's quantisation of a half group (8 pairs of tokens, 9 tiles of 128 lanes to a pair and a channel), named as vector operations. -/

namespace Cert.Proof.KI

open Cert.KernelIdeal Cert.KernelIdeal.Gen
open Idealize.ShloMosaic

variable {F : FTy → Type} [FloatOps F]

/-- The 9 × 4 loads of a half group: by pair of channels and by tile. -/
abbrev Raws (F : FTy → Type) : Type := Fin 4 → Fin 9 → Vec F S8x2x128 .bf16

/-- The two channels of a load, as the interleaved rows of one packed vector. -/
def pairUp (raw : Vec F S8x2x128 .bf16) : FVec F S16x128 .bf16 :=
  interleaveRows S16x128 (shapeCast S8x128 (rowsOfParity 0 S8x1x128 raw bitcasts_S8x2x128_w16_S8x1x128_w32) shapeCasts_S8x1x128_S8x128)
    (shapeCast S8x128 (rowsOfParity 1 S8x1x128 raw bitcasts_S8x2x128_w16_S8x1x128_w32) shapeCasts_S8x1x128_S8x128) bitcasts_S16x128_w16_S8x128_w32

/-- A load times the inverse scales, clipped to the largest code. -/
def scaled (inv : IVec S8x128 32) (raw : Vec F S8x2x128 .bf16) : FVec F S16x128 .bf16 :=
  minimumf (broadcast S16x128 (Scalar.truncf .bf16 bitsLt_bf16_f32 (Scalar.ofBits .f32 0x43E00000#32 : F .f32)))
    (maximumf (broadcast S16x128 (Scalar.truncf .bf16 bitsLt_bf16_f32 (Scalar.ofBits .f32 0xC3E00000#32 : F .f32)))
      (mulf (pairUp raw) (bitcastToFloat .bf16 (bitcast S16x128 16 inv bitcasts_S8x128_w32_S16x128_w16))))

/-- One channel of the scaled load. -/
def part (p : Fin 2) (inv : IVec S8x128 32) (raw : Vec F S8x2x128 .bf16) : FVec F S8x128 .bf16 :=
  rowsOfParity p S8x128 (scaled inv raw) bitcasts_S16x128_w16_S8x128_w32

/-- The first operand in the low 64 lanes, the second in the others. -/
def lowElse {α : Type} (a b : S8x128.Idx → α) : S8x128.Idx → α := select k0_pay42 a b

/-- The lanes' two halves exchanged. -/
def swap {α : Type} (a : S8x128.Idx → α) : S8x128.Idx → α := dynamicRotate 1 64#32 none a rotates_S8x128_d1

/-- Tile `j` of a pair of channels' codes: rows of even tokens and rows of odd tokens interleaved. -/
def tileOf (raw : Fin 9 → Vec F S8x2x128 .bf16) (ie io : IVec S8x128 32) : Fin 9 → FVec F S16x128 .bf16
  | 0 => interleaveRows S16x128 (part 0 ie (raw 0)) (swap (lowElse (part 0 io (raw 5)) (part 0 (lowElse ie io) (raw 4)))) bitcasts_S16x128_w16_S8x128_w32
  | 1 => interleaveRows S16x128 (part 0 ie (raw 1)) (swap (lowElse (part 0 io (raw 6)) (part 0 io (raw 5)))) bitcasts_S16x128_w16_S8x128_w32
  | 2 => interleaveRows S16x128 (part 0 ie (raw 2)) (swap (lowElse (part 0 io (raw 7)) (part 0 io (raw 6)))) bitcasts_S16x128_w16_S8x128_w32
  | 3 => interleaveRows S16x128 (part 0 ie (raw 3)) (swap (lowElse (part 0 io (raw 8)) (part 0 io (raw 7)))) bitcasts_S16x128_w16_S8x128_w32
  | 4 => interleaveRows S16x128 (lowElse (part 0 (lowElse ie io) (raw 4)) (swap (lowElse (part 1 ie (raw 0)) (part 1 io (raw 8)))))
      (lowElse (swap (lowElse (part 0 ie (raw 0)) (part 0 io (raw 8)))) (part 1 (lowElse ie io) (raw 4))) bitcasts_S16x128_w16_S8x128_w32
  | 5 => interleaveRows S16x128 (swap (lowElse (part 1 ie (raw 1)) (part 1 ie (raw 0)))) (part 1 io (raw 5)) bitcasts_S16x128_w16_S8x128_w32
  | 6 => interleaveRows S16x128 (swap (lowElse (part 1 ie (raw 2)) (part 1 ie (raw 1)))) (part 1 io (raw 6)) bitcasts_S16x128_w16_S8x128_w32
  | 7 => interleaveRows S16x128 (swap (lowElse (part 1 ie (raw 3)) (part 1 ie (raw 2)))) (part 1 io (raw 7)) bitcasts_S16x128_w16_S8x128_w32
  | 8 => interleaveRows S16x128 (swap (lowElse (part 1 (lowElse ie io) (raw 4)) (part 1 ie (raw 3)))) (part 1 io (raw 8)) bitcasts_S16x128_w16_S8x128_w32

/-- The codes of 32 tokens at one tile, from the two half groups' tiles. -/
def codeOf (a b : FVec F S16x128 .bf16) : FVec F S1x32x128 .fp8e4m3 :=
  shapeCast S1x32x128 (truncf .fp8e4m3 (concatenate S32x128 0 [⟨S16x128, a⟩, ⟨S16x128, b⟩] concatenates_S16x128_S16x128_S32x128_d0) bitsLt_fp8e4m3_bf16) shapeCasts_S32x128_S1x32x128

/-- The largest absolute values over the four pairs of channels of a tile. -/
def absTile (raw : Fin 4 → Vec F S8x2x128 .bf16) : FVec F S16x128 .bf16 :=
  maximumf (maximumf (maximumf (absf (pairUp (raw 0))) (absf (pairUp (raw 1)))) (absf (pairUp (raw 2)))) (absf (pairUp (raw 3)))

/-- A running maximum carried on through a tile. -/
def absMore (m : FVec F S16x128 .bf16) (raw : Fin 4 → Vec F S8x2x128 .bf16) : FVec F S16x128 .bf16 :=
  maximumf (maximumf (maximumf (maximumf m (absf (pairUp (raw 0)))) (absf (pairUp (raw 1)))) (absf (pairUp (raw 2)))) (absf (pairUp (raw 3)))

def zeros : FVec F S8x128 .bf16 := constant S8x128 .bf16 0x0000#16

def evenMax (raws : Raws F) : FVec F S16x128 .bf16 :=
  maximumf (absMore (absMore (absMore (absTile (raws · 0)) (raws · 1)) (raws · 2)) (raws · 3))
    (interleaveRows S16x128 (lowElse (rowsOfParity 0 S8x128 (absTile (raws · 4)) bitcasts_S16x128_w16_S8x128_w32) zeros)
      (lowElse (rowsOfParity 1 S8x128 (absTile (raws · 4)) bitcasts_S16x128_w16_S8x128_w32) zeros) bitcasts_S16x128_w16_S8x128_w32)

def oddMax (raws : Raws F) : FVec F S16x128 .bf16 :=
  maximumf (absMore (absMore (absMore (absTile (raws · 5)) (raws · 6)) (raws · 7)) (raws · 8))
    (interleaveRows S16x128 (lowElse zeros (rowsOfParity 0 S8x128 (absTile (raws · 4)) bitcasts_S16x128_w16_S8x128_w32))
      (lowElse zeros (rowsOfParity 1 S8x128 (absTile (raws · 4)) bitcasts_S16x128_w16_S8x128_w32)) bitcasts_S16x128_w16_S8x128_w32)

/-- The inverse scales and the scales, as words and as floats, of a half group's largest values. -/
def invOf (m : FVec F S16x128 .bf16) : IVec S8x128 32 :=
  k0_pay30 (k0_pay23 m) (k0_pay26 (k0_pay23 m) (k0_pay24 m) (k0_pay25 m) 23#32) (k0_pay27 (k0_pay23 m) (k0_pay24 m) (k0_pay25 m) 23#32) 23#32

def scaleOf (m : FVec F S16x128 .bf16) : FVec F S8x128 .f32 :=
  k0_pay40 (k0_pay39 (k0_pay29 (k0_pay23 m) (k0_pay26 (k0_pay23 m) (k0_pay24 m) (k0_pay25 m) 23#32) (k0_pay27 (k0_pay23 m) (k0_pay24 m) (k0_pay25 m) 23#32) 23#32))

end Cert.Proof.KI
end
-- ==== Proof.Pieces.lean ====
module

public import proofs.«01_k».proof.Proof.Trip
public import proofs.«01_k».proof.Proof.Tiles

@[expose] public section

set_option maxRecDepth 16384

noncomputable section

/-! What one trip of the token-group loop stores, by the names of `Tiles`: the pieces its run found are these. -/

namespace Cert.Proof.KI

open Cert.KernelIdeal Cert.KernelIdeal.Gen
open Idealize.ShloMosaic Idealize.ShloMosaic.TcCoe

variable {F : FTy → Type} [FloatOps F]

/-- The loads of half `h` of group `k`. -/
def raws (c : Dev nD) (arg2 : Memref sig .tc .vmem S2304x8x128 .bf16) (X : Bf (F := F) c arg2) (k : Fin k0_t1_loop.trips) (h : Fin 2) : Raws F
  | 0, t => View.readAt (Elt F) arg2.view { off := k0_off1 k (BitVec.ofNat 32 h.val) (BitVec.ofNat 32 t.val), size := S8x2x128.size, stride := ![9, 1, 1], inb := k0_off1_inb k h t } X
  | 1, t => View.readAt (Elt F) arg2.view { off := k0_off2 k (BitVec.ofNat 32 h.val) (BitVec.ofNat 32 t.val), size := S8x2x128.size, stride := ![9, 1, 1], inb := k0_off2_inb k h t } X
  | 2, t => View.readAt (Elt F) arg2.view { off := k0_off3 k (BitVec.ofNat 32 h.val) (BitVec.ofNat 32 t.val), size := S8x2x128.size, stride := ![9, 1, 1], inb := k0_off3_inb k h t } X
  | 3, t => View.readAt (Elt F) arg2.view { off := k0_off4 k (BitVec.ofNat 32 h.val) (BitVec.ofNat 32 t.val), size := S8x2x128.size, stride := ![9, 1, 1], inb := k0_off4_inb k h t } X

variable (c : Dev nD) (arg2 : Memref sig .tc .vmem S2304x8x128 .bf16) (X : Bf (F := F) c arg2) (k : Fin k0_t1_loop.trips)

theorem inv_even0 : trip.sl.r_26 c arg2 X k = invOf (evenMax (raws c arg2 X k 0)) := rfl
theorem inv_odd0 : trip.sl.r_31 c arg2 X k = invOf (oddMax (raws c arg2 X k 0)) := rfl
theorem inv_even1 : trip.sl.r_189 c arg2 X k = invOf (evenMax (raws c arg2 X k 1)) := rfl
theorem inv_odd1 : trip.sl.r_196 c arg2 X k = invOf (oddMax (raws c arg2 X k 1)) := rfl
theorem scale_even0 : k0_pay40 (trip.sl.r_32 c arg2 X k) = scaleOf (evenMax (raws c arg2 X k 0)) := rfl
theorem scale_odd0 : k0_pay41 (trip.sl.r_30 c arg2 X k) = scaleOf (oddMax (raws c arg2 X k 0)) := rfl
theorem scale_even1 : k0_pay287 (trip.sl.r_188 c arg2 X k) = scaleOf (evenMax (raws c arg2 X k 1)) := rfl
theorem scale_odd1 : k0_pay288 (trip.sl.r_195 c arg2 X k) = scaleOf (oddMax (raws c arg2 X k 1)) := rfl

theorem codes_7 : k0_pay499 (trip.sl.r_56 c arg2 X k) (trip.sl.r_219 c arg2 X k) = codeOf (tileOf (raws c arg2 X k 0 0) (trip.sl.r_26 c arg2 X k) (trip.sl.r_31 c arg2 X k) 0) (tileOf (raws c arg2 X k 1 0) (trip.sl.r_189 c arg2 X k) (trip.sl.r_196 c arg2 X k) 0) := rfl
theorem codes_8 : k0_pay500 (trip.sl.r_57 c arg2 X k) (trip.sl.r_220 c arg2 X k) = codeOf (tileOf (raws c arg2 X k 0 0) (trip.sl.r_26 c arg2 X k) (trip.sl.r_31 c arg2 X k) 1) (tileOf (raws c arg2 X k 1 0) (trip.sl.r_189 c arg2 X k) (trip.sl.r_196 c arg2 X k) 1) := rfl
theorem codes_9 : k0_pay501 (trip.sl.r_58 c arg2 X k) (trip.sl.r_221 c arg2 X k) = codeOf (tileOf (raws c arg2 X k 0 0) (trip.sl.r_26 c arg2 X k) (trip.sl.r_31 c arg2 X k) 2) (tileOf (raws c arg2 X k 1 0) (trip.sl.r_189 c arg2 X k) (trip.sl.r_196 c arg2 X k) 2) := rfl
theorem codes_10 : k0_pay502 (trip.sl.r_59 c arg2 X k) (trip.sl.r_222 c arg2 X k) = codeOf (tileOf (raws c arg2 X k 0 0) (trip.sl.r_26 c arg2 X k) (trip.sl.r_31 c arg2 X k) 3) (tileOf (raws c arg2 X k 1 0) (trip.sl.r_189 c arg2 X k) (trip.sl.r_196 c arg2 X k) 3) := rfl
theorem codes_11 : k0_pay504 (trip.sl.r_334 c arg2 X k) = codeOf (tileOf (raws c arg2 X k 0 0) (trip.sl.r_26 c arg2 X k) (trip.sl.r_31 c arg2 X k) 4) (tileOf (raws c arg2 X k 1 0) (trip.sl.r_189 c arg2 X k) (trip.sl.r_196 c arg2 X k) 4) := rfl
theorem codes_12 : k0_pay505 (trip.sl.r_61 c arg2 X k) (trip.sl.r_224 c arg2 X k) = codeOf (tileOf (raws c arg2 X k 0 0) (trip.sl.r_26 c arg2 X k) (trip.sl.r_31 c arg2 X k) 5) (tileOf (raws c arg2 X k 1 0) (trip.sl.r_189 c arg2 X k) (trip.sl.r_196 c arg2 X k) 5) := rfl
theorem codes_13 : k0_pay506 (trip.sl.r_62 c arg2 X k) (trip.sl.r_225 c arg2 X k) = codeOf (tileOf (raws c arg2 X k 0 0) (trip.sl.r_26 c arg2 X k) (trip.sl.r_31 c arg2 X k) 6) (tileOf (raws c arg2 X k 1 0) (trip.sl.r_189 c arg2 X k) (trip.sl.r_196 c arg2 X k) 6) := rfl
theorem codes_14 : k0_pay507 (trip.sl.r_63 c arg2 X k) (trip.sl.r_226 c arg2 X k) = codeOf (tileOf (raws c arg2 X k 0 0) (trip.sl.r_26 c arg2 X k) (trip.sl.r_31 c arg2 X k) 7) (tileOf (raws c arg2 X k 1 0) (trip.sl.r_189 c arg2 X k) (trip.sl.r_196 c arg2 X k) 7) := rfl
theorem codes_15 : k0_pay508 (trip.sl.r_64 c arg2 X k) (trip.sl.r_227 c arg2 X k) = codeOf (tileOf (raws c arg2 X k 0 0) (trip.sl.r_26 c arg2 X k) (trip.sl.r_31 c arg2 X k) 8) (tileOf (raws c arg2 X k 1 0) (trip.sl.r_189 c arg2 X k) (trip.sl.r_196 c arg2 X k) 8) := rfl
theorem codes_16 : k0_pay509 (trip.sl.r_86 c arg2 X k) (trip.sl.v2658 c arg2 X k) = codeOf (tileOf (raws c arg2 X k 0 1) (trip.sl.r_26 c arg2 X k) (trip.sl.r_31 c arg2 X k) 0) (tileOf (raws c arg2 X k 1 1) (trip.sl.r_189 c arg2 X k) (trip.sl.r_196 c arg2 X k) 0) := rfl
theorem codes_17 : k0_pay510 (trip.sl.r_87 c arg2 X k) (trip.sl.v2659 c arg2 X k) = codeOf (tileOf (raws c arg2 X k 0 1) (trip.sl.r_26 c arg2 X k) (trip.sl.r_31 c arg2 X k) 1) (tileOf (raws c arg2 X k 1 1) (trip.sl.r_189 c arg2 X k) (trip.sl.r_196 c arg2 X k) 1) := rfl
theorem codes_18 : k0_pay512 (trip.sl.r_335 c arg2 X k) = codeOf (tileOf (raws c arg2 X k 0 1) (trip.sl.r_26 c arg2 X k) (trip.sl.r_31 c arg2 X k) 2) (tileOf (raws c arg2 X k 1 1) (trip.sl.r_189 c arg2 X k) (trip.sl.r_196 c arg2 X k) 2) := rfl
theorem codes_19 : k0_pay513 (trip.sl.r_89 c arg2 X k) (trip.sl.v2661 c arg2 X k) = codeOf (tileOf (raws c arg2 X k 0 1) (trip.sl.r_26 c arg2 X k) (trip.sl.r_31 c arg2 X k) 3) (tileOf (raws c arg2 X k 1 1) (trip.sl.r_189 c arg2 X k) (trip.sl.r_196 c arg2 X k) 3) := rfl
theorem codes_20 : k0_pay514 (trip.sl.r_90 c arg2 X k) (trip.sl.v2662 c arg2 X k) = codeOf (tileOf (raws c arg2 X k 0 1) (trip.sl.r_26 c arg2 X k) (trip.sl.r_31 c arg2 X k) 4) (tileOf (raws c arg2 X k 1 1) (trip.sl.r_189 c arg2 X k) (trip.sl.r_196 c arg2 X k) 4) := rfl
theorem codes_21 : k0_pay515 (trip.sl.r_91 c arg2 X k) (trip.sl.v2663 c arg2 X k) = codeOf (tileOf (raws c arg2 X k 0 1) (trip.sl.r_26 c arg2 X k) (trip.sl.r_31 c arg2 X k) 5) (tileOf (raws c arg2 X k 1 1) (trip.sl.r_189 c arg2 X k) (trip.sl.r_196 c arg2 X k) 5) := rfl
theorem codes_22 : k0_pay516 (trip.sl.r_92 c arg2 X k) (trip.sl.v2664 c arg2 X k) = codeOf (tileOf (raws c arg2 X k 0 1) (trip.sl.r_26 c arg2 X k) (trip.sl.r_31 c arg2 X k) 6) (tileOf (raws c arg2 X k 1 1) (trip.sl.r_189 c arg2 X k) (trip.sl.r_196 c arg2 X k) 6) := rfl
theorem codes_23 : k0_pay517 (trip.sl.r_93 c arg2 X k) (trip.sl.v2665 c arg2 X k) = codeOf (tileOf (raws c arg2 X k 0 1) (trip.sl.r_26 c arg2 X k) (trip.sl.r_31 c arg2 X k) 7) (tileOf (raws c arg2 X k 1 1) (trip.sl.r_189 c arg2 X k) (trip.sl.r_196 c arg2 X k) 7) := rfl
theorem codes_24 : k0_pay519 (trip.sl.r_336 c arg2 X k) = codeOf (tileOf (raws c arg2 X k 0 1) (trip.sl.r_26 c arg2 X k) (trip.sl.r_31 c arg2 X k) 8) (tileOf (raws c arg2 X k 1 1) (trip.sl.r_189 c arg2 X k) (trip.sl.r_196 c arg2 X k) 8) := rfl
theorem codes_25 : k0_pay520 (trip.sl.v1411 c arg2 X k) (trip.sl.v2898 c arg2 X k) = codeOf (tileOf (raws c arg2 X k 0 2) (trip.sl.r_26 c arg2 X k) (trip.sl.r_31 c arg2 X k) 0) (tileOf (raws c arg2 X k 1 2) (trip.sl.r_189 c arg2 X k) (trip.sl.r_196 c arg2 X k) 0) := rfl
theorem codes_26 : k0_pay521 (trip.sl.v1412 c arg2 X k) (trip.sl.v2899 c arg2 X k) = codeOf (tileOf (raws c arg2 X k 0 2) (trip.sl.r_26 c arg2 X k) (trip.sl.r_31 c arg2 X k) 1) (tileOf (raws c arg2 X k 1 2) (trip.sl.r_189 c arg2 X k) (trip.sl.r_196 c arg2 X k) 1) := rfl
theorem codes_27 : k0_pay522 (trip.sl.v1413 c arg2 X k) (trip.sl.r_289 c arg2 X k) = codeOf (tileOf (raws c arg2 X k 0 2) (trip.sl.r_26 c arg2 X k) (trip.sl.r_31 c arg2 X k) 2) (tileOf (raws c arg2 X k 1 2) (trip.sl.r_189 c arg2 X k) (trip.sl.r_196 c arg2 X k) 2) := rfl
theorem codes_28 : k0_pay523 (trip.sl.v1414 c arg2 X k) (trip.sl.r_290 c arg2 X k) = codeOf (tileOf (raws c arg2 X k 0 2) (trip.sl.r_26 c arg2 X k) (trip.sl.r_31 c arg2 X k) 3) (tileOf (raws c arg2 X k 1 2) (trip.sl.r_189 c arg2 X k) (trip.sl.r_196 c arg2 X k) 3) := rfl
theorem codes_29 : k0_pay524 (trip.sl.v1415 c arg2 X k) (trip.sl.r_291 c arg2 X k) = codeOf (tileOf (raws c arg2 X k 0 2) (trip.sl.r_26 c arg2 X k) (trip.sl.r_31 c arg2 X k) 4) (tileOf (raws c arg2 X k 1 2) (trip.sl.r_189 c arg2 X k) (trip.sl.r_196 c arg2 X k) 4) := rfl
theorem codes_30 : k0_pay525 (trip.sl.v1416 c arg2 X k) (trip.sl.r_292 c arg2 X k) = codeOf (tileOf (raws c arg2 X k 0 2) (trip.sl.r_26 c arg2 X k) (trip.sl.r_31 c arg2 X k) 5) (tileOf (raws c arg2 X k 1 2) (trip.sl.r_189 c arg2 X k) (trip.sl.r_196 c arg2 X k) 5) := rfl
theorem codes_31 : k0_pay527 (trip.sl.r_337 c arg2 X k) = codeOf (tileOf (raws c arg2 X k 0 2) (trip.sl.r_26 c arg2 X k) (trip.sl.r_31 c arg2 X k) 6) (tileOf (raws c arg2 X k 1 2) (trip.sl.r_189 c arg2 X k) (trip.sl.r_196 c arg2 X k) 6) := rfl
theorem codes_32 : k0_pay528 (trip.sl.v1418 c arg2 X k) (trip.sl.r_294 c arg2 X k) = codeOf (tileOf (raws c arg2 X k 0 2) (trip.sl.r_26 c arg2 X k) (trip.sl.r_31 c arg2 X k) 7) (tileOf (raws c arg2 X k 1 2) (trip.sl.r_189 c arg2 X k) (trip.sl.r_196 c arg2 X k) 7) := rfl
theorem codes_33 : k0_pay529 (trip.sl.v1419 c arg2 X k) (trip.sl.r_295 c arg2 X k) = codeOf (tileOf (raws c arg2 X k 0 2) (trip.sl.r_26 c arg2 X k) (trip.sl.r_31 c arg2 X k) 8) (tileOf (raws c arg2 X k 1 2) (trip.sl.r_189 c arg2 X k) (trip.sl.r_196 c arg2 X k) 8) := rfl
theorem codes_34 : k0_pay530 (trip.sl.r_155 c arg2 X k) (trip.sl.r_325 c arg2 X k) = codeOf (tileOf (raws c arg2 X k 0 3) (trip.sl.r_26 c arg2 X k) (trip.sl.r_31 c arg2 X k) 0) (tileOf (raws c arg2 X k 1 3) (trip.sl.r_189 c arg2 X k) (trip.sl.r_196 c arg2 X k) 0) := rfl
theorem codes_35 : k0_pay531 (trip.sl.r_156 c arg2 X k) (trip.sl.r_326 c arg2 X k) = codeOf (tileOf (raws c arg2 X k 0 3) (trip.sl.r_26 c arg2 X k) (trip.sl.r_31 c arg2 X k) 1) (tileOf (raws c arg2 X k 1 3) (trip.sl.r_189 c arg2 X k) (trip.sl.r_196 c arg2 X k) 1) := rfl
theorem codes_36 : k0_pay532 (trip.sl.r_157 c arg2 X k) (trip.sl.r_327 c arg2 X k) = codeOf (tileOf (raws c arg2 X k 0 3) (trip.sl.r_26 c arg2 X k) (trip.sl.r_31 c arg2 X k) 2) (tileOf (raws c arg2 X k 1 3) (trip.sl.r_189 c arg2 X k) (trip.sl.r_196 c arg2 X k) 2) := rfl
theorem codes_37 : k0_pay533 (trip.sl.r_158 c arg2 X k) (trip.sl.r_328 c arg2 X k) = codeOf (tileOf (raws c arg2 X k 0 3) (trip.sl.r_26 c arg2 X k) (trip.sl.r_31 c arg2 X k) 3) (tileOf (raws c arg2 X k 1 3) (trip.sl.r_189 c arg2 X k) (trip.sl.r_196 c arg2 X k) 3) := rfl
theorem codes_38 : k0_pay535 (trip.sl.r_338 c arg2 X k) = codeOf (tileOf (raws c arg2 X k 0 3) (trip.sl.r_26 c arg2 X k) (trip.sl.r_31 c arg2 X k) 4) (tileOf (raws c arg2 X k 1 3) (trip.sl.r_189 c arg2 X k) (trip.sl.r_196 c arg2 X k) 4) := rfl
theorem codes_39 : k0_pay536 (trip.sl.r_160 c arg2 X k) (trip.sl.r_330 c arg2 X k) = codeOf (tileOf (raws c arg2 X k 0 3) (trip.sl.r_26 c arg2 X k) (trip.sl.r_31 c arg2 X k) 5) (tileOf (raws c arg2 X k 1 3) (trip.sl.r_189 c arg2 X k) (trip.sl.r_196 c arg2 X k) 5) := rfl
theorem codes_40 : k0_pay537 (trip.sl.r_161 c arg2 X k) (trip.sl.r_331 c arg2 X k) = codeOf (tileOf (raws c arg2 X k 0 3) (trip.sl.r_26 c arg2 X k) (trip.sl.r_31 c arg2 X k) 6) (tileOf (raws c arg2 X k 1 3) (trip.sl.r_189 c arg2 X k) (trip.sl.r_196 c arg2 X k) 6) := rfl
theorem codes_41 : k0_pay538 (trip.sl.r_162 c arg2 X k) (trip.sl.r_332 c arg2 X k) = codeOf (tileOf (raws c arg2 X k 0 3) (trip.sl.r_26 c arg2 X k) (trip.sl.r_31 c arg2 X k) 7) (tileOf (raws c arg2 X k 1 3) (trip.sl.r_189 c arg2 X k) (trip.sl.r_196 c arg2 X k) 7) := rfl
theorem codes_42 : k0_pay539 (trip.sl.r_163 c arg2 X k) (trip.sl.r_333 c arg2 X k) = codeOf (tileOf (raws c arg2 X k 0 3) (trip.sl.r_26 c arg2 X k) (trip.sl.r_31 c arg2 X k) 8) (tileOf (raws c arg2 X k 1 3) (trip.sl.r_189 c arg2 X k) (trip.sl.r_196 c arg2 X k) 8) := rfl

end Cert.Proof.KI
end
-- ==== Proof.TileValue.lean ====
module

public import proofs.«01_k».proof.Proof.Tiles
public import Idealize.ShloMosaic.Lib.BitcastPair

@[expose] public section

set_option maxRecDepth 16384

noncomputable section

/-! The elements of the named vector operations of `Tiles`, over the extended reals. -/

namespace Cert.Proof.KI

open Cert.KernelIdeal Cert.KernelIdeal.Gen
open Idealize.ShloMosaic

theorem pairUp_apply (raw : Vec Ideal S8x2x128 .bf16) (r : Fin 16) (l : Fin 128) :
    pairUp (F := Ideal) raw (ix2 r l) = raw (ix3 ⟨r.val / 2, by omega⟩ ⟨r.val % 2, by omega⟩ l) := by
  pointwise [pairUp]
  rcases Nat.mod_two_eq_zero_or_one r.val with h | h <;> simp [h]

theorem slt_64 (l : Fin 128) : IntOp.cmpi .slt (BitVec.ofNat 32 l.val) 64#32 = BitVec.ofBool (decide (l.val < 64)) := by
  revert l; decide +kernel

theorem lowElse_apply {α : Type} (a b : S8x128.Idx → α) (i : Fin 8) (l : Fin 128) :
    lowElse a b (ix2 i l) = if l.val < 64 then a (ix2 i l) else b (ix2 i l) := by
  pointwise [lowElse, k0_pay42]
  rw [slt_64]
  by_cases h : l.val < 64 <;> simp [h, Scalar.select]

theorem swap_apply {α : Type} (a : S8x128.Idx → α) (i : Fin 8) (l : Fin 128) :
    swap a (ix2 i l) = a (ix2 i ⟨(l.val + 64) % 128, by omega⟩) := by
  pointwise [swap]
  rfl

/-- The clip to the largest code. -/
def clip (z : EReal) : EReal := min (Ideal.ofBits .f32 0x43E00000#32) (max (Ideal.ofBits .f32 0xC3E00000#32) z)

/-- The inverse scale a word holds in its half `p`. -/
def invHalf (w : BitVec 32) (p : Nat) : EReal := Ideal.ofBits .bf16 (w.extractLsb' (16 * p) 16)

/-- The scaled and clipped element of channel `ch`, pair `i`, tile `T`, lane `m`. -/
def elem (raw : Fin 9 → Vec Ideal S8x2x128 .bf16) (w : IVec S8x128 32) (i : Fin 8) (ch T m : Nat) : EReal :=
  clip (raw ⟨T % 9, by omega⟩ (ix3 i ⟨ch % 2, by omega⟩ ⟨m % 128, by omega⟩) * invHalf (w (ix2 i ⟨m % 128, by omega⟩)) ch)

theorem bitcast_row (inv : IVec S8x128 32) (r : Fin 16) (l : Fin 128) :
    bitcast S16x128 16 inv bitcasts_S8x128_w32_S16x128_w16 (ix2 r l) = (inv (ix2 ⟨r.val / 2, by omega⟩ l)).extractLsb' (16 * (r.val % 2)) 16 := by
  rw [bitcast_32_16]
  congr 1
  congr 1
  funext a
  match a with
  | 0 => rfl
  | 1 => rfl

theorem part_apply (p : Fin 2) (inv : IVec S8x128 32) (raw : Fin 9 → Vec Ideal S8x2x128 .bf16) (t : Fin 9) (i : Fin 8) (l : Fin 128) :
    part (F := Ideal) p inv (raw t) (ix2 i l) = elem raw inv i p.val t.val l.val := by
  have ht : (⟨t.val % 9, by omega⟩ : Fin 9) = t := Fin.ext (Nat.mod_eq_of_lt t.isLt)
  have hl : (⟨l.val % 128, by omega⟩ : Fin 128) = l := Fin.ext (Nat.mod_eq_of_lt l.isLt)
  unfold elem
  rw [ht, hl]
  pointwise [part, scaled, clip, invHalf]
  rw [pairUp_apply, bitcast_row]
  have e1 : (⟨(2 * i.val + p.val) / 2, by omega⟩ : Fin 8) = i := Fin.ext (by first | omega | (simp <;> omega))
  have e2 : (2 * i.val + p.val) % 2 = p.val % 2 := by omega
  have e3 : p.val % 2 = p.val := by omega
  simp only [e1, e2, e3]

theorem rows_apply {α : Type} (a b : S8x128.Idx → α) (r : Fin 16) (l : Fin 128) :
    interleaveRows S16x128 a b bitcasts_S16x128_w16_S8x128_w32 (ix2 r l)
      = if r.val % 2 = 0 then a (ix2 ⟨r.val / 2, by omega⟩ l) else b (ix2 ⟨r.val / 2, by omega⟩ l) := by
  pointwise

theorem elem_congr (raw : Fin 9 → Vec Ideal S8x2x128 .bf16) (w w' : IVec S8x128 32) (i : Fin 8) {ch ch' T T' m m' : Nat}
    (h1 : ch = ch') (h2 : T = T') (h3 : m = m') (hw : w (ix2 i ⟨m % 128, by omega⟩) = w' (ix2 i ⟨m % 128, by omega⟩)) :
    elem raw w i ch T m = elem raw w' i ch' T' m' := by
  subst h1 h2 h3; unfold elem; rw [hw]

/-- A tile of codes: row `r` is token `r` of the half group, column `128 j + l` its position in the pair of channels. -/
theorem tileOf_apply (raw : Fin 9 → Vec Ideal S8x2x128 .bf16) (ie io : IVec S8x128 32) (j : Fin 9) (r : Fin 16) (l : Fin 128) :
    tileOf (F := Ideal) raw ie io j (ix2 r l)
      = elem raw (if r.val % 2 = 0 then ie else io) ⟨r.val / 2, by omega⟩ ((128 * j.val + l.val) / 576)
          ((576 * (r.val % 2) + (128 * j.val + l.val) % 576) / 128) ((576 * (r.val % 2) + (128 * j.val + l.val) % 576) % 128) := by
  rcases Nat.mod_two_eq_zero_or_one r.val with h | h <;> by_cases hl : l.val < 64 <;>
  match j with
  | 0 | 1 | 2 | 3 | 4 | 5 | 6 | 7 | 8 =>
    simp only [tileOf, rows_apply, lowElse_apply, swap_apply, part_apply, h, hl, one_ne_zero, ↓reduceIte]
    try split_ifs
    all_goals first
      | (exfalso; omega)
      | (refine elem_congr raw _ _ _ ?_ ?_ ?_ ?_ <;>
          first
            | rfl
            | (show (_ : Nat) = _; first | omega | (simp <;> omega))
            | (simp only [lowElse_apply]
               split_ifs <;> first | rfl | omega | (exfalso; simp only [] at *; omega)))

end Cert.Proof.KI
end
-- ==== Proof.Scalars.lean ====
module

public import Idealize.ShloMosaic.Lib.Pointwise

@[expose] public section

set_option maxRecDepth 16384

noncomputable section

/-! Powers of two by their bits, and the exponent of a nonnegative number: by binary search over thresholds, and as the largest power of two below it. -/

namespace Cert.Proof.Scal

open Idealize.ShloMosaic

/-- The number whose f32 exponent field is `n` and whose other bits are zero. -/
def thr (n : Nat) : EReal := Ideal.ofBits .f32 (BitVec.ofNat 32 n <<< 23)

theorem field32 : ∀ n : Fin 256, ((BitVec.ofNat 32 n.val <<< 23).extractLsb' 23 8).toNat = n.val ∧ ((BitVec.ofNat 32 n.val <<< 23).extractLsb' 0 23).toNat = 0
    ∧ ((BitVec.ofNat 32 n.val <<< 23).extractLsb' 31 1 == 1#1) = false := by decide +kernel

theorem field16 : ∀ n : Fin 256, ((BitVec.ofNat 16 n.val <<< 7).extractLsb' 7 8).toNat = n.val ∧ ((BitVec.ofNat 16 n.val <<< 7).extractLsb' 0 7).toNat = 0
    ∧ ((BitVec.ofNat 16 n.val <<< 7).extractLsb' 15 1 == 1#1) = false := by decide +kernel

theorem T_zero : thr 0 = 0 := by
  obtain ⟨h1, h2, h3⟩ := field32 0
  simp only [thr, Ideal.ofBits, Ideal.ieee, show 8 + 23 = 31 from rfl] at *
  simp [h1, h2, h3]

theorem T_top : thr 255 = ⊤ := by
  obtain ⟨h1, h2, h3⟩ := field32 255
  simp only [thr, Ideal.ofBits, Ideal.ieee, show 8 + 23 = 31 from rfl] at *
  simp [h1, h2, h3]

theorem shift (m n : Nat) {z : ℤ} (hz : z = 127) :
    (if false = true then (-1 : ℝ) else 1) * ((2 ^ m + 0 : ℕ) : ℝ) * (2 : ℝ) ^ ((n : ℤ) - z - m) = (2 : ℝ) ^ ((n : ℤ) - 127) := by
  subst hz
  simp only [Bool.false_eq_true, ↓reduceIte, add_zero, one_mul, Nat.cast_pow, Nat.cast_ofNat]
  rw [← zpow_natCast (2 : ℝ) m, ← zpow_add₀ (by norm_num)]
  congr 1
  ring

theorem T_pow (n : Nat) (h0 : 0 < n) (h : n < 255) : thr n = (((2 : ℝ) ^ ((n : ℤ) - 127) : ℝ) : EReal) := by
  obtain ⟨h1, h2, h3⟩ := field32 ⟨n, by omega⟩
  simp only [thr, Ideal.ofBits, Ideal.ieee, show 8 + 23 = 31 from rfl] at *
  rw [h1, h2, h3]
  rw [if_neg (by omega), if_neg (by omega)]
  exact congrArg (fun r : ℝ => (r : EReal)) (shift 23 n (by norm_num))

theorem bf16_pow (n : Nat) (h0 : 0 < n) (h : n < 255) : Ideal.ofBits .bf16 (BitVec.ofNat 16 n <<< 7) = (((2 : ℝ) ^ ((n : ℤ) - 127) : ℝ) : EReal) := by
  obtain ⟨h1, h2, h3⟩ := field16 ⟨n, by omega⟩
  simp only [Ideal.ofBits, Ideal.ieee, show 8 + 7 = 15 from rfl] at *
  rw [h1, h2, h3]
  rw [if_neg (by omega), if_neg (by omega)]
  exact congrArg (fun r : ℝ => (r : EReal)) (shift 7 n (by norm_num))

/-- One step of the search. -/
def stepN (q : EReal) (s e : Nat) : Nat := if thr (e + s) ≤ q then e + s else e

/-- The exponent field the search finds. -/
def expoN (q : EReal) : Nat := stepN q 1 (stepN q 2 (stepN q 4 (stepN q 8 (stepN q 16 (stepN q 32 (stepN q 64 (stepN q 128 0)))))))

theorem stepN_spec (q : EReal) (s e : Nat) (h : thr e ≤ q ∧ e + (s + s) ≤ 256 ∧ (e + (s + s) = 256 ∨ q < thr (e + (s + s)))) :
    thr (stepN q s e) ≤ q ∧ stepN q s e + s ≤ 256 ∧ (stepN q s e + s = 256 ∨ q < thr (stepN q s e + s)) := by
  unfold stepN
  split_ifs with hs
  · exact ⟨hs, by omega, by rw [Nat.add_assoc]; exact h.2.2⟩
  · exact ⟨h.1, by omega, .inr (not_le.1 hs)⟩

theorem expoN_spec (q : EReal) (hq : 0 ≤ q) : thr (expoN q) ≤ q ∧ expoN q + 1 ≤ 256 ∧ (expoN q + 1 = 256 ∨ q < thr (expoN q + 1)) :=
  stepN_spec q 1 _ (stepN_spec q 2 _ (stepN_spec q 4 _ (stepN_spec q 8 _ (stepN_spec q 16 _ (stepN_spec q 32 _ (stepN_spec q 64 _ (stepN_spec q 128 0
    ⟨by rw [T_zero]; exact hq, by omega, .inl rfl⟩)))))))

/-- The field the kernel goes on with: 126 for zero, subnormal and infinite values. -/
def fieldN (q : EReal) : Nat := if expoN q = 0 ∨ expoN q = 255 then 126 else expoN q

/-- The scale the kernel stores and the inverse it multiplies by. -/
def kScale (q : EReal) : EReal := thr (fieldN q + 1)
def kInv (q : EReal) : EReal := Ideal.ofBits .bf16 (BitVec.ofNat 16 (253 - fieldN q) <<< 7)

/-- The reference's exponent. -/
def rExp (q : EReal) : EReal :=
  if Ideal.ofBits .f32 0x00800000#32 ≤ q ∧ q < Ideal.ofBits .f32 0x7F800000#32 then
    Finset.univ.sup fun k : Fin 254 => if Ideal.pow 2 (((((k.val : ℤ) - 126 : ℤ) : ℝ)) : EReal) ≤ q then ((((k.val : ℤ) - 125 : ℤ) : ℝ) : EReal) else ⊥
  else 0

theorem pow_two (z : ℤ) : Ideal.pow 2 (((z : ℝ)) : EReal) = (((2 : ℝ) ^ z : ℝ) : EReal) := by
  show Ideal.pow (((2 : ℝ)) : EReal) _ = _
  show ((Real.rpow 2 (z : ℝ) : ℝ) : EReal) = _
  congr 1
  exact Real.rpow_intCast 2 z

theorem mono {a b : ℤ} (h : a ≤ b) : (((2 : ℝ) ^ a : ℝ) : EReal) ≤ (((2 : ℝ) ^ b : ℝ) : EReal) := by
  exact EReal.coe_le_coe_iff.2 (zpow_le_zpow_right₀ (by norm_num) h)

/-- The two exponents agree below `2 ^ 126` and at infinity. -/
theorem field_eq (q : EReal) (hq : 0 ≤ q) (hb : q < thr 253 ∨ q = ⊤) :
    rExp q = ((((fieldN q : ℤ) - 126 : ℤ) : ℝ) : EReal) ∧ 0 < fieldN q ∧ fieldN q ≤ 252 := by
  obtain ⟨h1, h2, h3⟩ := expoN_spec q hq
  have t1 : Ideal.ofBits .f32 0x00800000#32 = thr 1 := rfl
  have t255 : Ideal.ofBits .f32 0x7F800000#32 = thr 255 := rfl
  unfold rExp fieldN
  rw [t1, t255]
  generalize expoN q = E at h1 h2 h3
  by_cases h0 : E = 0
  · subst h0
    rw [if_neg (fun h => absurd h.1 (not_le.2 (h3.resolve_left (by omega)))), if_pos (.inl rfl)]
    norm_num
  by_cases h255 : E = 255
  · subst h255
    rw [if_neg (fun h => absurd h.2 (not_lt.2 h1)), if_pos (.inr rfl)]
    norm_num
  have hlt : q < thr (E + 1) := h3.resolve_left (by omega)
  have hfin : q < thr 255 := by
    rw [T_top]
    refine lt_of_lt_of_le hlt le_top
  have hE : E ≤ 252 := by
    by_contra hc
    rcases hb with hb | hb
    · have : thr 253 ≤ thr E := by rw [T_pow 253 (by omega) (by omega), T_pow E (by omega) (by omega)]; exact mono (by omega)
      exact absurd hb (not_lt.2 (this.trans h1))
    · rw [hb, T_top] at hfin; exact absurd hfin (lt_irrefl _)
  have h1' : thr 1 ≤ q := by
    refine le_trans ?_ h1
    rw [T_pow 1 (by omega) (by omega), T_pow E (by omega) (by omega)]; exact mono (by omega)
  rw [if_pos ⟨h1', hfin⟩, if_neg (by omega)]
  refine ⟨le_antisymm ?_ ?_, by omega, hE⟩
  · refine Finset.sup_le fun k _ => ?_
    split_ifs with hk
    · rw [pow_two] at hk
      have hlt' := lt_of_le_of_lt hk hlt
      rw [T_pow (E + 1) (by omega) (by omega)] at hlt'
      have : (k.val : ℤ) - 126 < ((E + 1 : ℕ) : ℤ) - 127 := by
        by_contra hc
        exact absurd hlt' (not_lt.2 (mono (not_lt.1 hc)))
      have : (k.val : ℤ) - 125 ≤ (E : ℤ) - 126 := by push_cast at this; omega
      exact_mod_cast this
    · exact bot_le
  · have := Finset.le_sup (f := fun k : Fin 254 => if Ideal.pow 2 (((((k.val : ℤ) - 126 : ℤ) : ℝ)) : EReal) ≤ q then ((((k.val : ℤ) - 125 : ℤ) : ℝ) : EReal) else ⊥)
      (Finset.mem_univ (⟨E - 1, by omega⟩ : Fin 254))
    refine le_trans ?_ this
    have hE1 : ((E - 1 : ℕ) : ℤ) = (E : ℤ) - 1 := by omega
    have hle : Ideal.pow 2 ((((((E - 1 : ℕ) : ℤ) - 126 : ℤ) : ℝ)) : EReal) ≤ q := by
      rw [pow_two, hE1]
      rw [T_pow E (by omega) (by omega)] at h1
      convert h1 using 3
      ring
    simp only []
    rw [if_pos hle, hE1]
    apply le_of_eq
    congr 2
    ring

theorem kScale_eq (q : EReal) (hq : 0 ≤ q) (hb : q < thr 253 ∨ q = ⊤) : kScale q = Ideal.pow 2 (rExp q) := by
  obtain ⟨h, h0, h1⟩ := field_eq q hq hb
  rw [h, pow_two, kScale, T_pow _ (by omega) (by omega)]
  congr 2
  push_cast; ring

theorem kInv_eq (q : EReal) (hq : 0 ≤ q) (hb : q < thr 253 ∨ q = ⊤) : kInv q = Ideal.pow 2 (-(rExp q)) := by
  obtain ⟨h, h0, h1⟩ := field_eq q hq hb
  have e : -((((fieldN q : ℤ) - 126 : ℤ) : ℝ) : EReal) = ((((126 - (fieldN q : ℤ) : ℤ)) : ℝ) : EReal) := by
    rw [← EReal.coe_neg]; congr 1; push_cast; ring
  rw [h, e, pow_two, kInv, bf16_pow _ (by omega) (by omega)]
  congr 2
  omega

end Cert.Proof.Scal
end
-- ==== Proof.Search.lean ====
module

public import proofs.«01_k».proof.Proof.TileValue
public import proofs.«01_k».proof.Proof.Scalars

@[expose] public section

set_option maxRecDepth 16384

noncomputable section

/-! The exponents, scales and inverse scales the kernel computes from a half group's largest values, read at one token. -/

namespace Cert.Proof.KI

open Cert.KernelIdeal Cert.KernelIdeal.Gen
open Idealize.ShloMosaic
open Cert.Proof.Scal

/-- One step of the exponents' search, on vectors. -/
def vstep (q : FVec Ideal S8x128 .f32) (s : BitVec 32) (e : IVec S8x128 32) : IVec S8x128 32 :=
  select (cmpf .oge q (bitcastToFloat .f32 (shli (addi e (broadcast S8x128 s)) (broadcast S8x128 23#32)))) (addi e (broadcast S8x128 s)) e

def vexpo (q : FVec Ideal S8x128 .f32) : IVec S8x128 32 :=
  vstep q 1#32 (vstep q 2#32 (vstep q 4#32 (vstep q 8#32 (vstep q 16#32 (vstep q 32#32 (vstep q 64#32 (vstep q 128#32 (broadcast S8x128 0#32))))))))

theorem expo_eq (m : FVec Ideal S16x128 .bf16) :
    select (cmpf .oge (k0_pay23 m) (bitcastToFloat .f32 (shli (k0_pay27 (k0_pay23 m) (k0_pay24 m) (k0_pay25 m) 23#32) (broadcast S8x128 23#32))))
      (addi (k0_pay26 (k0_pay23 m) (k0_pay24 m) (k0_pay25 m) 23#32) (broadcast S8x128 1#32)) (k0_pay26 (k0_pay23 m) (k0_pay24 m) (k0_pay25 m) 23#32) = vexpo (k0_pay23 m) := rfl

theorem vstep_apply (q : FVec Ideal S8x128 .f32) (s : Nat) (e : IVec S8x128 32) (x : S8x128.Idx) (n : Nat) (he : e x = BitVec.ofNat 32 n) :
    vstep q (BitVec.ofNat 32 s) e x = BitVec.ofNat 32 (stepN (q x) s n) := by
  have h1 : vstep q (BitVec.ofNat 32 s) e x
      = if (Ideal.cmp .oge (q x) (Ideal.ofBits .f32 ((e x + BitVec.ofNat 32 s) <<< 23))) = 1#1 then e x + BitVec.ofNat 32 s else e x := rfl
  rw [h1, he, ← BitVec.ofNat_add]
  unfold stepN thr
  by_cases hc : Ideal.ofBits .f32 (BitVec.ofNat 32 (n + s) <<< 23) ≤ q x
  · simp [Ideal.cmp, hc]
  · simp [Ideal.cmp, hc]

theorem vexpo_apply (q : FVec Ideal S8x128 .f32) (x : S8x128.Idx) : vexpo q x = BitVec.ofNat 32 (expoN (q x)) :=
  vstep_apply q 1 _ x _ (vstep_apply q 2 _ x _ (vstep_apply q 4 _ x _ (vstep_apply q 8 _ x _ (vstep_apply q 16 _ x _ (vstep_apply q 32 _ x _
    (vstep_apply q 64 _ x _ (vstep_apply q 128 _ x 0 rfl)))))))

/-- The field the kernel goes on with, on vectors. -/
def vfield (e : IVec S8x128 32) : IVec S8x128 32 :=
  select (ori (cmpi .eq e (broadcast S8x128 0#32)) (cmpi .eq e (broadcast S8x128 255#32))) (broadcast S8x128 126#32) e

def invWord (f : IVec S8x128 32) : IVec S8x128 32 :=
  ori (shli (subi (broadcast S8x128 253#32) f) (broadcast S8x128 7#32)) (shli (shli (subi (broadcast S8x128 253#32) f) (broadcast S8x128 7#32)) (broadcast S8x128 16#32))

theorem invOf_eq (m : FVec Ideal S16x128 .bf16) : invOf m = invWord (vfield (vexpo (k0_pay23 m))) := rfl

theorem scaleOf_eq (m : FVec Ideal S16x128 .bf16) :
    scaleOf m = shapeCast S8x128 (bitcastToFloat .f32 (shli (addi (vfield (vexpo (k0_pay23 m))) (broadcast S8x128 1#32)) (broadcast S8x128 23#32)) : FVec Ideal S8x128 .f32) shapeCasts_S8x128_S8x128 := rfl

theorem vfield_word : ∀ n : Fin 256, Scalar.select (IntOp.ori (IntOp.cmpi .eq (BitVec.ofNat 32 n.val) 0#32) (IntOp.cmpi .eq (BitVec.ofNat 32 n.val) 255#32)) 126#32 (BitVec.ofNat 32 n.val)
    = BitVec.ofNat 32 (if n.val = 0 ∨ n.val = 255 then 126 else n.val) := by decide +kernel

theorem vfield_apply (q : FVec Ideal S8x128 .f32) (x : S8x128.Idx) (hq : 0 ≤ q x) : vfield (vexpo q) x = BitVec.ofNat 32 (fieldN (q x)) := by
  have h := vfield_word ⟨expoN (q x), by have := (expoN_spec (q x) hq).2.1; omega⟩
  rw [← vexpo_apply] at h
  exact h

theorem inv_word : ∀ (n : Fin 253) (p : Fin 2), (((253#32 - BitVec.ofNat 32 n.val) <<< 7) |||
      (((253#32 - BitVec.ofNat 32 n.val) <<< 7) <<< 16)).extractLsb' (16 * p.val) 16
    = BitVec.ofNat 16 (253 - n.val) <<< 7 := by decide +kernel

theorem invOf_apply (m : FVec Ideal S16x128 .bf16) (x : S8x128.Idx) (p : Nat) (hp : p < 2) (hq : 0 ≤ k0_pay23 m x) (hf : fieldN (k0_pay23 m x) ≤ 252) :
    invHalf (invOf m x) p = kInv (k0_pay23 m x) := by
  have h := inv_word ⟨fieldN (k0_pay23 m x), by omega⟩ ⟨p, hp⟩
  rw [← vfield_apply _ _ hq] at h
  rw [invOf_eq]
  unfold invHalf kInv
  rw [← h]
  rfl

theorem scale_word : ∀ n : Fin 256, (BitVec.ofNat 32 n.val + 1#32) <<< 23 = BitVec.ofNat 32 (n.val + 1) <<< 23 := by decide +kernel

theorem scaleOf_apply (m : FVec Ideal S16x128 .bf16) (i : Fin 8) (l : Fin 128) (hq : 0 ≤ k0_pay23 m (ix2 i l)) (hf : fieldN (k0_pay23 m (ix2 i l)) ≤ 252) :
    scaleOf m (ix2 i l) = kScale (k0_pay23 m (ix2 i l)) := by
  have h := scale_word ⟨fieldN (k0_pay23 m (ix2 i l)), by omega⟩
  rw [← vfield_apply _ _ hq] at h
  rw [scaleOf_eq]
  unfold kScale thr
  rw [← h]
  pointwise
  rfl

end Cert.Proof.KI
end
-- ==== Proof.Amax.lean ====
module

public import proofs.«01_k».proof.Proof.TileValue

@[expose] public section

set_option maxRecDepth 16384

noncomputable section

/-! The largest absolute value of a token's window, as the kernel reduces it. -/

namespace Cert.Proof.KI

open Cert.KernelIdeal Cert.KernelIdeal.Gen
open Idealize.ShloMosaic

/-- The absolute value. -/
def ab (z : EReal) : EReal := max z (-z)

theorem ab_nonneg (z : EReal) : 0 ≤ ab z := by
  unfold ab
  rcases le_total 0 z with h | h
  · exact le_max_of_le_left h
  · exact le_max_of_le_right (EReal.neg_nonneg.2 h)

/-- The largest absolute value of eight channels of 576 positions. -/
def amax (f : Fin 8 → Fin 576 → EReal) : EReal := ⨆ c, ⨆ p, ab (f c p)

theorem amax_le (f : Fin 8 → Fin 576 → EReal) (M : EReal) : amax f ≤ M ↔ ∀ c p, ab (f c p) ≤ M := by
  simp [amax, iSup_le_iff]

theorem amax_nonneg (f : Fin 8 → Fin 576 → EReal) : 0 ≤ amax f := (ab_nonneg _).trans ((amax_le f _).1 le_rfl 0 0)

theorem absPair_apply (raw : Vec Ideal S8x2x128 .bf16) (r : Fin 16) (l : Fin 128) :
    absf (F := Ideal) (pairUp raw) (ix2 r l) = ab (raw (ix3 ⟨r.val / 2, by omega⟩ ⟨r.val % 2, by omega⟩ l)) :=
  congrArg ab (pairUp_apply raw r l)

theorem four {P : Fin 4 → Prop} : (∀ p, P p) ↔ ((P 0 ∧ P 1) ∧ P 2) ∧ P 3 := by
  constructor
  · intro h; exact ⟨⟨⟨h 0, h 1⟩, h 2⟩, h 3⟩
  · rintro ⟨⟨⟨h0, h1⟩, h2⟩, h3⟩ p; match p with | 0 => exact h0 | 1 => exact h1 | 2 => exact h2 | 3 => exact h3

theorem absTile_le (raw : Fin 4 → Vec Ideal S8x2x128 .bf16) (r : Fin 16) (l : Fin 128) (M : EReal) :
    absTile (F := Ideal) raw (ix2 r l) ≤ M ↔ ∀ p, ab (raw p (ix3 ⟨r.val / 2, by omega⟩ ⟨r.val % 2, by omega⟩ l)) ≤ M := by
  rw [four]
  simp only [absTile, maximumf, Ideal.maximumf_eq_max, max_le_iff, absPair_apply]

theorem absMore_le (m : FVec Ideal S16x128 .bf16) (raw : Fin 4 → Vec Ideal S8x2x128 .bf16) (r : Fin 16) (l : Fin 128) (M : EReal) :
    absMore (F := Ideal) m raw (ix2 r l) ≤ M ↔ m (ix2 r l) ≤ M ∧ ∀ p, ab (raw p (ix3 ⟨r.val / 2, by omega⟩ ⟨r.val % 2, by omega⟩ l)) ≤ M := by
  rw [four]
  simp only [absMore, maximumf, Ideal.maximumf_eq_max, max_le_iff, absPair_apply, and_assoc]

theorem zeros_apply (x : S8x128.Idx) : zeros (F := Ideal) x = 0 := by simp [zeros, constant, Ideal.ofBits, Ideal.ieee]

/-- The element of channel `c` at place `p` of a pair of tokens. -/
def win (raws : Raws Ideal) (i : Fin 8) (c p : Nat) : EReal :=
  raws ⟨(c / 2) % 4, by omega⟩ ⟨(p / 128) % 9, by omega⟩ (ix3 i ⟨c % 2, by omega⟩ ⟨p % 128, by omega⟩)

theorem tile_win (raws : Raws Ideal) (i : Fin 8) (p : Fin 4) (t : Fin 9) (b : Fin 2) (l : Fin 128) :
    raws p t (ix3 i b l) = win raws i (2 * p.val + b.val) (128 * t.val + l.val) := by
  have h1 : (⟨((2 * p.val + b.val) / 2) % 4, by omega⟩ : Fin 4) = p := by ext; simp <;> omega
  have h2 : (⟨((128 * t.val + l.val) / 128) % 9, by omega⟩ : Fin 9) = t := by ext; simp <;> omega
  have h3 : (⟨(2 * p.val + b.val) % 2, by omega⟩ : Fin 2) = b := by ext; simp <;> omega
  have h4 : (⟨(128 * t.val + l.val) % 128, by omega⟩ : Fin 128) = l := by ext; simp <;> omega
  unfold win
  rw [h1, h2, h3, h4]

/-- A bound on tile `t` of a pair of tokens at lane `l`, row `b`. -/
def Bd (raws : Raws Ideal) (i : Fin 8) (b : Nat) (t l : Nat) (M : EReal) : Prop := ∀ p : Fin 4, ab (win raws i (2 * p.val + b) (128 * t + l)) ≤ M

theorem bd_iff (raws : Raws Ideal) (r : Fin 16) (t : Fin 9) (l : Fin 128) (M : EReal) :
    (∀ p, ab (raws p t (ix3 ⟨r.val / 2, by omega⟩ ⟨r.val % 2, by omega⟩ l)) ≤ M) ↔ Bd raws ⟨r.val / 2, by omega⟩ (r.val % 2) t.val l.val M := by
  simp only [tile_win, Bd]

theorem mid_apply (raws : Raws Ideal) (r : Fin 16) (l : Fin 128) :
    interleaveRows S16x128 (rowsOfParity 0 S8x128 (absTile (raws · 4)) bitcasts_S16x128_w16_S8x128_w32)
      (rowsOfParity 1 S8x128 (absTile (raws · 4)) bitcasts_S16x128_w16_S8x128_w32) bitcasts_S16x128_w16_S8x128_w32 (ix2 r l) = absTile (F := Ideal) (raws · 4) (ix2 r l) := by
  pointwise
  rcases Nat.mod_two_eq_zero_or_one r.val with h | h <;> simp only [h] <;> simp <;> congr 2 <;> (ext; first | rfl | omega | (simp <;> omega))

theorem evenMax_le (raws : Raws Ideal) (r : Fin 16) (l : Fin 128) (M : EReal) (hM : 0 ≤ M) :
    evenMax (F := Ideal) raws (ix2 r l) ≤ M ↔ ∀ t : Fin 5, 128 * t.val + l.val < 576 → Bd raws ⟨r.val / 2, by omega⟩ (r.val % 2) t.val l.val M := by
  have hm := mid_apply raws r l
  rw [rows_apply] at hm
  have h4 : interleaveRows S16x128 (lowElse (rowsOfParity 0 S8x128 (absTile (raws · 4)) bitcasts_S16x128_w16_S8x128_w32) zeros)
      (lowElse (rowsOfParity 1 S8x128 (absTile (raws · 4)) bitcasts_S16x128_w16_S8x128_w32) zeros) bitcasts_S16x128_w16_S8x128_w32 (ix2 r l)
        = if l.val < 64 then absTile (F := Ideal) (raws · 4) (ix2 r l) else 0 := by
    rw [rows_apply, lowElse_apply, lowElse_apply, zeros_apply, ← hm]
    split_ifs <;> rfl
  have e : evenMax (F := Ideal) raws (ix2 r l) = max (absMore (absMore (absMore (absTile (raws · 0)) (raws · 1)) (raws · 2)) (raws · 3) (ix2 r l))
      (if l.val < 64 then absTile (F := Ideal) (raws · 4) (ix2 r l) else 0) := by rw [← h4]; rfl
  rw [e, max_le_iff, absMore_le, absMore_le, absMore_le, absTile_le, bd_iff, bd_iff, bd_iff, bd_iff]
  have e4 : (if l.val < 64 then absTile (F := Ideal) (raws · 4) (ix2 r l) else 0) ≤ M ↔ (l.val < 64 → Bd raws ⟨r.val / 2, by omega⟩ (r.val % 2) 4 l.val M) := by
    split_ifs with h
    · rw [absTile_le, bd_iff]; exact ⟨fun a _ => a, fun a => a h⟩
    · exact ⟨fun _ a => absurd a h, fun _ => hM⟩
  rw [e4]
  constructor
  · rintro ⟨⟨⟨⟨h0, h1⟩, h2⟩, h3⟩, h4⟩ t ht
    match t with
    | 0 => exact h0
    | 1 => exact h1
    | 2 => exact h2
    | 3 => exact h3
    | 4 => exact h4 (by simp at ht; omega)
  · intro h
    refine ⟨⟨⟨⟨h 0 ?_, h 1 ?_⟩, h 2 ?_⟩, h 3 ?_⟩, fun hl => h 4 ?_⟩ <;> simp <;> omega

theorem oddMax_le (raws : Raws Ideal) (r : Fin 16) (l : Fin 128) (M : EReal) (hM : 0 ≤ M) :
    oddMax (F := Ideal) raws (ix2 r l) ≤ M ↔ ∀ t : Fin 5, 576 ≤ 128 * (t.val + 4) + l.val → Bd raws ⟨r.val / 2, by omega⟩ (r.val % 2) (t.val + 4) l.val M := by
  have hm := mid_apply raws r l
  rw [rows_apply] at hm
  have h4 : interleaveRows S16x128 (lowElse zeros (rowsOfParity 0 S8x128 (absTile (raws · 4)) bitcasts_S16x128_w16_S8x128_w32))
      (lowElse zeros (rowsOfParity 1 S8x128 (absTile (raws · 4)) bitcasts_S16x128_w16_S8x128_w32)) bitcasts_S16x128_w16_S8x128_w32 (ix2 r l)
        = if l.val < 64 then 0 else absTile (F := Ideal) (raws · 4) (ix2 r l) := by
    rw [rows_apply, lowElse_apply, lowElse_apply, zeros_apply, ← hm]
    split_ifs <;> rfl
  have e : oddMax (F := Ideal) raws (ix2 r l) = max (absMore (absMore (absMore (absTile (raws · 5)) (raws · 6)) (raws · 7)) (raws · 8) (ix2 r l))
      (if l.val < 64 then 0 else absTile (F := Ideal) (raws · 4) (ix2 r l)) := by rw [← h4]; rfl
  rw [e, max_le_iff, absMore_le, absMore_le, absMore_le, absTile_le, bd_iff, bd_iff, bd_iff, bd_iff]
  have e4 : (if l.val < 64 then 0 else absTile (F := Ideal) (raws · 4) (ix2 r l)) ≤ M ↔ (64 ≤ l.val → Bd raws ⟨r.val / 2, by omega⟩ (r.val % 2) 4 l.val M) := by
    split_ifs with h
    · exact ⟨fun _ a => absurd a (by omega), fun _ => hM⟩
    · rw [absTile_le, bd_iff]; exact ⟨fun a _ => a, fun a => a (by omega)⟩
  rw [e4]
  constructor
  · rintro ⟨⟨⟨⟨h0, h1⟩, h2⟩, h3⟩, h4⟩ t ht
    match t with
    | 1 => exact h0
    | 2 => exact h1
    | 3 => exact h2
    | 4 => exact h3
    | 0 => exact h4 (by simp at ht; omega)
  · intro h
    refine ⟨⟨⟨⟨h 1 ?_, h 2 ?_⟩, h 3 ?_⟩, h 4 ?_⟩, fun hl => h 0 ?_⟩ <;> simp <;> omega

theorem bot_bits : Ideal.ofBits .f32 0xFF800000#32 = ⊥ := by simp [Ideal.ofBits, Ideal.ieee]

/-- The number the kernel and the reference both multiply the largest value by. -/
def c448 : EReal := Ideal.ofBits .f32 0x3B124925#32

theorem pay23_apply (m : FVec Ideal S16x128 .bf16) (i : Fin 8) (l : Fin 128) :
    k0_pay23 m (ix2 i l) = Finset.fold max ⊥ (fun x : Fin 128 => max (m (ix2 ⟨2 * i.val + 1, by omega⟩ x)) (m (ix2 ⟨2 * i.val, by omega⟩ x))) Finset.univ * c448 := by
  pointwise [k0_pay23]
  rw [bot_bits]
  rfl

theorem evenMax_nonneg (raws : Raws Ideal) (r : Fin 16) (l : Fin 128) : 0 ≤ evenMax (F := Ideal) raws (ix2 r l) := by
  have h : absMore (absMore (absMore (absTile (raws · 0)) (raws · 1)) (raws · 2)) (raws · 3) (ix2 r l) ≤ evenMax (F := Ideal) raws (ix2 r l) := le_max_left _ _
  exact (ab_nonneg _).trans (((absMore_le _ _ _ _ _).1 h).2 0)

theorem quot_even (raws : Raws Ideal) (i : Fin 8) (l : Fin 128) :
    k0_pay23 (evenMax raws) (ix2 i l) = amax (fun c p => win raws i c.val (0 + p.val)) * c448 := by
  rw [pay23_apply]
  congr 1
  refine eq_of_forall_ge_iff fun M => ?_
  rw [Finset.fold_max_le, amax_le]
  have i0 : (⟨(2 * i.val) / 2, by omega⟩ : Fin 8) = i := by ext; simp
  have i1 : (⟨(2 * i.val + 1) / 2, by omega⟩ : Fin 8) = i := by ext; simp; omega
  constructor
  · rintro ⟨-, h⟩ c p
    have hx := h ⟨(0 + p.val) % 128, by omega⟩ (Finset.mem_univ _)
    rw [max_le_iff] at hx
    have hM : 0 ≤ M := (evenMax_nonneg _ _ _).trans hx.1
    rw [evenMax_le _ _ _ _ hM, evenMax_le _ _ _ _ hM] at hx
    simp only [i0, i1] at hx
    have hp : 128 * (p.val / 128) + (0 + p.val) % 128 = 0 + p.val := by omega
    rcases Nat.mod_two_eq_zero_or_one c.val with hc | hc
    · have := hx.2 ⟨(p.val / 128), by omega⟩ (by show _ < 576; simp only []; omega) ⟨c.val / 2, by omega⟩
      have hc' : 2 * (c.val / 2) + (2 * i.val) % 2 = c.val := by omega
      simp only [hc', hp] at this
      exact this
    · have := hx.1 ⟨(p.val / 128), by omega⟩ (by show _ < 576; simp only []; omega) ⟨c.val / 2, by omega⟩
      have hc' : 2 * (c.val / 2) + (2 * i.val + 1) % 2 = c.val := by omega
      simp only [hc', hp] at this
      exact this
  · intro h
    have hM : 0 ≤ M := (ab_nonneg _).trans (h 0 0)
    refine ⟨bot_le, fun x _ => ?_⟩
    rw [max_le_iff, evenMax_le _ _ _ _ hM, evenMax_le _ _ _ _ hM]
    simp only [i0, i1]
    refine ⟨fun t ht p => ?_, fun t ht p => ?_⟩
    · have := h ⟨2 * p.val + (2 * i.val + 1) % 2, by omega⟩ ⟨128 * t.val + x.val, ht⟩
      simpa only [Nat.zero_add] using this
    · have := h ⟨2 * p.val + (2 * i.val) % 2, by omega⟩ ⟨128 * t.val + x.val, ht⟩
      simpa only [Nat.zero_add] using this

theorem oddMax_nonneg (raws : Raws Ideal) (r : Fin 16) (l : Fin 128) : 0 ≤ oddMax (F := Ideal) raws (ix2 r l) := by
  have h : absMore (absMore (absMore (absTile (raws · 5)) (raws · 6)) (raws · 7)) (raws · 8) (ix2 r l) ≤ oddMax (F := Ideal) raws (ix2 r l) := le_max_left _ _
  exact (ab_nonneg _).trans (((absMore_le _ _ _ _ _).1 h).2 0)

theorem quot_odd (raws : Raws Ideal) (i : Fin 8) (l : Fin 128) :
    k0_pay23 (oddMax raws) (ix2 i l) = amax (fun c p => win raws i c.val (576 + p.val)) * c448 := by
  rw [pay23_apply]
  congr 1
  refine eq_of_forall_ge_iff fun M => ?_
  rw [Finset.fold_max_le, amax_le]
  have i0 : (⟨(2 * i.val) / 2, by omega⟩ : Fin 8) = i := by ext; simp
  have i1 : (⟨(2 * i.val + 1) / 2, by omega⟩ : Fin 8) = i := by ext; simp; omega
  constructor
  · rintro ⟨-, h⟩ c p
    have hx := h ⟨(576 + p.val) % 128, by omega⟩ (Finset.mem_univ _)
    rw [max_le_iff] at hx
    have hM : 0 ≤ M := (oddMax_nonneg _ _ _).trans hx.1
    rw [oddMax_le _ _ _ _ hM, oddMax_le _ _ _ _ hM] at hx
    simp only [i0, i1] at hx
    have hp : 128 * (((p.val + 64) / 128) + 4) + (576 + p.val) % 128 = 576 + p.val := by omega
    rcases Nat.mod_two_eq_zero_or_one c.val with hc | hc
    · have := hx.2 ⟨((p.val + 64) / 128), by omega⟩ (by show 576 ≤ _; simp only []; omega) ⟨c.val / 2, by omega⟩
      have hc' : 2 * (c.val / 2) + (2 * i.val) % 2 = c.val := by omega
      simp only [hc', hp] at this
      exact this
    · have := hx.1 ⟨((p.val + 64) / 128), by omega⟩ (by show 576 ≤ _; simp only []; omega) ⟨c.val / 2, by omega⟩
      have hc' : 2 * (c.val / 2) + (2 * i.val + 1) % 2 = c.val := by omega
      simp only [hc', hp] at this
      exact this
  · intro h
    have hM : 0 ≤ M := (ab_nonneg _).trans (h 0 0)
    refine ⟨bot_le, fun x _ => ?_⟩
    rw [max_le_iff, oddMax_le _ _ _ _ hM, oddMax_le _ _ _ _ hM]
    simp only [i0, i1]
    refine ⟨fun t ht p => ?_, fun t ht p => ?_⟩
    · have := h ⟨2 * p.val + (2 * i.val + 1) % 2, by omega⟩ ⟨128 * (t.val + 4) + x.val - 576, by omega⟩
      simpa only [Nat.add_sub_cancel' ht] using this
    · have := h ⟨2 * p.val + (2 * i.val) % 2, by omega⟩ ⟨128 * (t.val + 4) + x.val - 576, by omega⟩
      simpa only [Nat.add_sub_cancel' ht] using this

end Cert.Proof.KI
end
-- ==== Proof.Tokens.lean ====
module

public import proofs.«01_k».proof.Proof.Pieces
public import proofs.«01_k».proof.Proof.Search
public import proofs.«01_k».proof.Proof.Amax

@[expose] public section

set_option maxRecDepth 16384

noncomputable section

/-! What a window of the signal's tiles says of its 512 tokens: their values, scales and codes; and that a trip's vectors hold them. -/

namespace Cert.Proof.KI

open Cert.KernelIdeal Cert.KernelIdeal.Gen
open Idealize.ShloMosaic Idealize.ShloMosaic.TcCoe
open Cert.Proof.Scal

/-- Token `r` of a window of tiles: channel `c`, position `p`. -/
def tok (x : Vec Ideal S2304x8x128 .bf16) (r : Fin 512) (c : Fin 8) (p : Fin 576) : EReal :=
  x (ix3 ⟨9 * (r.val / 2) + (576 * (r.val % 2) + p.val) / 128, by omega⟩ c ⟨(576 * (r.val % 2) + p.val) % 128, by omega⟩)

/-- The largest absolute value of a token over the largest code. -/
def quo (x : Vec Ideal S2304x8x128 .bf16) (r : Fin 512) : EReal := amax (tok x r) * c448

/-- No token's quotient lies between `2 ^ 126` and infinity. -/
def Good (x : Vec Ideal S2304x8x128 .bf16) : Prop := ∀ r, quo x r < thr 253 ∨ quo x r = ⊤

/-- The codes of a window of tiles, and the scales of its tokens along the rows of the scratch. -/
def codes (x : Vec Ideal S2304x8x128 .bf16) (r : Fin 512) (q : Fin 4608) : EReal :=
  clip (tok x r ⟨q.val / 576, by omega⟩ ⟨q.val % 576, by omega⟩ * kInv (quo x r))

def G8 (x : Vec Ideal S2304x8x128 .bf16) : Vec Ideal S1x512x4608 .fp8e4m3 := fun j => codes x (j 1) (j 2)
def G10 (x : Vec Ideal S2304x8x128 .bf16) : Vec Ideal S512x128 .f32 := fun j => kScale (quo x (j 0))

theorem c448_nonneg : 0 ≤ c448 := by
  have h1 : ((0x3B124925#32).extractLsb' 23 8).toNat = 118 := by decide
  have h3 : ((0x3B124925#32).extractLsb' 31 1 == 1#1) = false := by decide
  simp only [c448, Ideal.ofBits, Ideal.ieee, show 8 + 23 = 31 from rfl]
  rw [h1, h3, if_neg (by omega), if_neg (by omega)]
  refine EReal.coe_nonneg.2 ?_
  simp only [Bool.false_eq_true, ↓reduceIte, one_mul]
  positivity

theorem quo_nonneg (x : Vec Ideal S2304x8x128 .bf16) (r : Fin 512) : 0 ≤ quo x r := mul_nonneg (amax_nonneg _) c448_nonneg

theorem trips_eq : k0_t1_loop.trips = 16 := by decide +kernel

theorem off1_0 : ∀ (k : Fin k0_t1_loop.trips) (h : Fin 2) (t : Fin 9), k0_off1 k (BitVec.ofNat 32 h.val) (BitVec.ofNat 32 t.val) 0 = (2 * k.val + h.val) * 72 + t.val := by decide +kernel
theorem off2_0 : ∀ (k : Fin k0_t1_loop.trips) (h : Fin 2) (t : Fin 9), k0_off2 k (BitVec.ofNat 32 h.val) (BitVec.ofNat 32 t.val) 0 = (2 * k.val + h.val) * 72 + t.val := by decide +kernel
theorem off3_0 : ∀ (k : Fin k0_t1_loop.trips) (h : Fin 2) (t : Fin 9), k0_off3 k (BitVec.ofNat 32 h.val) (BitVec.ofNat 32 t.val) 0 = (2 * k.val + h.val) * 72 + t.val := by decide +kernel
theorem off4_0 : ∀ (k : Fin k0_t1_loop.trips) (h : Fin 2) (t : Fin 9), k0_off4 k (BitVec.ofNat 32 h.val) (BitVec.ofNat 32 t.val) 0 = (2 * k.val + h.val) * 72 + t.val := by decide +kernel

variable (c : Dev nD) (arg2 : Memref sig .tc .vmem S2304x8x128 .bf16) (X : Bf (F := Ideal) c arg2) (k : Fin k0_t1_loop.trips)

/-- The window's contents. -/
abbrev rd : Vec Ideal S2304x8x128 .bf16 := arg2.view.read (Elt Ideal) X

theorem klt : k.val < 16 := k.isLt.trans_eq trips_eq

theorem raws_apply (h : Fin 2) (p : Fin 4) (t : Fin 9) (i : Fin 8) (b : Fin 2) (l : Fin 128) :
    raws c arg2 X k h p t (ix3 i b l)
      = rd c arg2 X (ix3 ⟨(2 * k.val + h.val) * 72 + 9 * i.val + t.val, by have := klt k; omega⟩ ⟨2 * p.val + b.val, by omega⟩ l) := by
  match p with
  | 0 =>
    refine congrArg (arg2.view.read (Elt Ideal) X) (funext fun a => Fin.ext ?_)
    match a with
    | 0 => show k0_off1 k _ _ 0 + 9 * i.val = _; rw [off1_0]; show _ = (2 * k.val + h.val) * 72 + 9 * i.val + t.val; omega
    | 1 => show 0 + 1 * b.val = 0 + b.val; omega
    | 2 => show 0 + 1 * l.val = l.val; omega
  | 1 =>
    refine congrArg (arg2.view.read (Elt Ideal) X) (funext fun a => Fin.ext ?_)
    match a with
    | 0 => show k0_off2 k _ _ 0 + 9 * i.val = _; rw [off2_0]; show _ = (2 * k.val + h.val) * 72 + 9 * i.val + t.val; omega
    | 1 => show 2 + 1 * b.val = 2 + b.val; omega
    | 2 => show 0 + 1 * l.val = l.val; omega
  | 2 =>
    refine congrArg (arg2.view.read (Elt Ideal) X) (funext fun a => Fin.ext ?_)
    match a with
    | 0 => show k0_off3 k _ _ 0 + 9 * i.val = _; rw [off3_0]; show _ = (2 * k.val + h.val) * 72 + 9 * i.val + t.val; omega
    | 1 => show 4 + 1 * b.val = 4 + b.val; omega
    | 2 => show 0 + 1 * l.val = l.val; omega
  | 3 =>
    refine congrArg (arg2.view.read (Elt Ideal) X) (funext fun a => Fin.ext ?_)
    match a with
    | 0 => show k0_off4 k _ _ 0 + 9 * i.val = _; rw [off4_0]; show _ = (2 * k.val + h.val) * 72 + 9 * i.val + t.val; omega
    | 1 => show 6 + 1 * b.val = 6 + b.val; omega
    | 2 => show 0 + 1 * l.val = l.val; omega

/-- The token at row `b` of pair `i` of half `h` of group `k`. -/
def row (h : Fin 2) (i : Fin 8) (b : Fin 2) : Fin 512 := ⟨32 * k.val + 16 * h.val + 2 * i.val + b.val, by have := klt k; omega⟩

theorem win_tok (h : Fin 2) (i : Fin 8) (b : Fin 2) (ch : Fin 8) (p : Fin 576) :
    win (raws c arg2 X k h) i ch.val (576 * b.val + p.val) = tok (rd c arg2 X) (row k h i b) ch p := by
  unfold win tok
  rw [raws_apply]
  congr 1
  have e1 : row k h i b = ⟨32 * k.val + 16 * h.val + 2 * i.val + b.val, by have := klt k; omega⟩ := rfl
  rw [e1]
  funext a
  apply Fin.ext
  match a with
  | 0 =>
    show (2 * k.val + h.val) * 72 + 9 * i.val + ((576 * b.val + p.val) / 128) % 9
      = 9 * ((32 * k.val + 16 * h.val + 2 * i.val + b.val) / 2) + (576 * ((32 * k.val + 16 * h.val + 2 * i.val + b.val) % 2) + p.val) / 128
    omega
  | 1 => show 2 * ((ch.val / 2) % 4) + ch.val % 2 = ch.val; omega
  | 2 => show (576 * b.val + p.val) % 128 = (576 * ((32 * k.val + 16 * h.val + 2 * i.val + b.val) % 2) + p.val) % 128; omega

theorem quo_even (h : Fin 2) (i : Fin 8) (l : Fin 128) : k0_pay23 (evenMax (raws c arg2 X k h)) (ix2 i l) = quo (rd c arg2 X) (row k h i 0) := by
  rw [quot_even]
  refine congrArg (fun f => amax f * c448) (funext fun ch => funext fun p => ?_)
  exact win_tok c arg2 X k h i 0 ch p

theorem quo_odd (h : Fin 2) (i : Fin 8) (l : Fin 128) : k0_pay23 (oddMax (raws c arg2 X k h)) (ix2 i l) = quo (rd c arg2 X) (row k h i 1) := by
  rw [quot_odd]
  refine congrArg (fun f => amax f * c448) (funext fun ch => funext fun p => ?_)
  exact win_tok c arg2 X k h i 1 ch p

variable (hg : Good (rd c arg2 X))
include hg

theorem scale_even (h : Fin 2) (i : Fin 8) (l : Fin 128) : scaleOf (evenMax (raws c arg2 X k h)) (ix2 i l) = kScale (quo (rd c arg2 X) (row k h i 0)) := by
  have e := quo_even c arg2 X k h i l
  rw [scaleOf_apply _ _ _ (by rw [e]; exact quo_nonneg _ _) (by rw [e]; exact (field_eq _ (quo_nonneg _ _) (hg _)).2.2), e]

theorem scale_odd (h : Fin 2) (i : Fin 8) (l : Fin 128) : scaleOf (oddMax (raws c arg2 X k h)) (ix2 i l) = kScale (quo (rd c arg2 X) (row k h i 1)) := by
  have e := quo_odd c arg2 X k h i l
  rw [scaleOf_apply _ _ _ (by rw [e]; exact quo_nonneg _ _) (by rw [e]; exact (field_eq _ (quo_nonneg _ _) (hg _)).2.2), e]

theorem inv_even (h : Fin 2) (i : Fin 8) (l : Fin 128) (p : Nat) (hp : p < 2) :
    invHalf (invOf (evenMax (raws c arg2 X k h)) (ix2 i l)) p = kInv (quo (rd c arg2 X) (row k h i 0)) := by
  have e := quo_even c arg2 X k h i l
  rw [invOf_apply _ _ _ hp (by rw [e]; exact quo_nonneg _ _) (by rw [e]; exact (field_eq _ (quo_nonneg _ _) (hg _)).2.2), e]

theorem inv_odd (h : Fin 2) (i : Fin 8) (l : Fin 128) (p : Nat) (hp : p < 2) :
    invHalf (invOf (oddMax (raws c arg2 X k h)) (ix2 i l)) p = kInv (quo (rd c arg2 X) (row k h i 1)) := by
  have e := quo_odd c arg2 X k h i l
  rw [invOf_apply _ _ _ hp (by rw [e]; exact quo_nonneg _ _) (by rw [e]; exact (field_eq _ (quo_nonneg _ _) (hg _)).2.2), e]

/-- A tile of codes holds its tokens' codes. -/
theorem tile_codes (h : Fin 2) (p : Fin 4) (j : Fin 9) (r : Fin 16) (l : Fin 128) :
    tileOf (raws c arg2 X k h p) (invOf (evenMax (raws c arg2 X k h))) (invOf (oddMax (raws c arg2 X k h))) j (ix2 r l)
      = codes (rd c arg2 X) ⟨32 * k.val + 16 * h.val + r.val, by have := klt k; omega⟩ ⟨1152 * p.val + 128 * j.val + l.val, by omega⟩ := by
  rw [tileOf_apply]
  unfold elem codes
  have hrow : row k h ⟨r.val / 2, by omega⟩ ⟨r.val % 2, by omega⟩ = (⟨32 * k.val + 16 * h.val + r.val, by have := klt k; omega⟩ : Fin 512) := by
    apply Fin.ext; show 32 * k.val + 16 * h.val + 2 * (r.val / 2) + r.val % 2 = 32 * k.val + 16 * h.val + r.val; omega
  congr 1
  congr 1
  · refine (tile_win (raws c arg2 X k h) _ p _ _ _).trans ?_
    rw [← hrow]
    refine Eq.trans ?_ (win_tok c arg2 X k h ⟨r.val / 2, by omega⟩ ⟨r.val % 2, by omega⟩ ⟨(1152 * p.val + 128 * j.val + l.val) / 576, by omega⟩
      ⟨(1152 * p.val + 128 * j.val + l.val) % 576, by omega⟩)
    refine congrArg₂ (win (raws c arg2 X k h) _) ?_ ?_
    · show 2 * p.val + (128 * j.val + l.val) / 576 % 2 = (1152 * p.val + 128 * j.val + l.val) / 576; omega
    · show 128 * (((576 * (r.val % 2) + (128 * j.val + l.val) % 576) / 128) % 9) + (576 * (r.val % 2) + (128 * j.val + l.val) % 576) % 128 % 128
        = 576 * (r.val % 2) + (1152 * p.val + 128 * j.val + l.val) % 576
      omega
  · rw [← hrow]
    rcases Nat.mod_two_eq_zero_or_one r.val with hr | hr
    · rw [if_pos hr, inv_even c arg2 X k hg _ _ _ _ (by omega)]
      congr 3
      exact Fin.ext hr.symm
    · rw [if_neg (by omega), inv_odd c arg2 X k hg _ _ _ _ (by omega)]
      congr 3
      exact Fin.ext hr.symm

end Cert.Proof.KI
end
-- ==== Proof.TripValue.lean ====
module

public import proofs.«01_k».proof.Proof.Tokens
public import Idealize.ShloMosaic.Lib.Pipeline.ReadBack

@[expose] public section

set_option maxRecDepth 65536

noncomputable section

/-! What the codes' buffer and the scratch of scales read after one trip of the token-group loop. -/

namespace Cert.Proof.KI

open Cert.KernelIdeal Cert.KernelIdeal.Gen
open Idealize.ShloMosaic Idealize.ShloMosaic.TcCoe
open Cert.Proof.Scal

variable {F : FTy → Type} [FloatOps F]

/-- The codes a trip stores at tile `j` of the pair `p` of channels. -/
def pay8 (c : Dev nD) (arg2 : Memref sig .tc .vmem S2304x8x128 .bf16) (X : Bf (F := F) c arg2) (k : Fin k0_t1_loop.trips) (p : Fin 4) (j : Fin 9) : FVec F S1x32x128 .fp8e4m3 :=
  codeOf (tileOf (raws c arg2 X k 0 p) (invOf (evenMax (raws c arg2 X k 0))) (invOf (oddMax (raws c arg2 X k 0))) j)
    (tileOf (raws c arg2 X k 1 p) (invOf (evenMax (raws c arg2 X k 1))) (invOf (oddMax (raws c arg2 X k 1))) j)

/-- A trip's stores, the last first. -/
def list8 (c : Dev nD) (arg2 : Memref sig .tc .vmem S2304x8x128 .bf16) (X : Bf (F := F) c arg2) (k : Fin k0_t1_loop.trips) : List (View.Piece (Elt F) S1x512x4608 .fp8e4m3) :=
  ⟨Rect.unit (k0_off42 k) S1x32x128.size (k0_off42_inb k), pay8 c arg2 X k 3 8⟩ ::
   ⟨Rect.unit (k0_off41 k) S1x32x128.size (k0_off41_inb k), pay8 c arg2 X k 3 7⟩ ::
   ⟨Rect.unit (k0_off40 k) S1x32x128.size (k0_off40_inb k), pay8 c arg2 X k 3 6⟩ ::
   ⟨Rect.unit (k0_off39 k) S1x32x128.size (k0_off39_inb k), pay8 c arg2 X k 3 5⟩ ::
   ⟨Rect.unit (k0_off38 k) S1x32x128.size (k0_off38_inb k), pay8 c arg2 X k 3 4⟩ ::
   ⟨Rect.unit (k0_off37 k) S1x32x128.size (k0_off37_inb k), pay8 c arg2 X k 3 3⟩ ::
   ⟨Rect.unit (k0_off36 k) S1x32x128.size (k0_off36_inb k), pay8 c arg2 X k 3 2⟩ ::
   ⟨Rect.unit (k0_off35 k) S1x32x128.size (k0_off35_inb k), pay8 c arg2 X k 3 1⟩ ::
   ⟨Rect.unit (k0_off34 k) S1x32x128.size (k0_off34_inb k), pay8 c arg2 X k 3 0⟩ ::
   ⟨Rect.unit (k0_off33 k) S1x32x128.size (k0_off33_inb k), pay8 c arg2 X k 2 8⟩ ::
   ⟨Rect.unit (k0_off32 k) S1x32x128.size (k0_off32_inb k), pay8 c arg2 X k 2 7⟩ ::
   ⟨Rect.unit (k0_off31 k) S1x32x128.size (k0_off31_inb k), pay8 c arg2 X k 2 6⟩ ::
   ⟨Rect.unit (k0_off30 k) S1x32x128.size (k0_off30_inb k), pay8 c arg2 X k 2 5⟩ ::
   ⟨Rect.unit (k0_off29 k) S1x32x128.size (k0_off29_inb k), pay8 c arg2 X k 2 4⟩ ::
   ⟨Rect.unit (k0_off28 k) S1x32x128.size (k0_off28_inb k), pay8 c arg2 X k 2 3⟩ ::
   ⟨Rect.unit (k0_off27 k) S1x32x128.size (k0_off27_inb k), pay8 c arg2 X k 2 2⟩ ::
   ⟨Rect.unit (k0_off26 k) S1x32x128.size (k0_off26_inb k), pay8 c arg2 X k 2 1⟩ ::
   ⟨Rect.unit (k0_off25 k) S1x32x128.size (k0_off25_inb k), pay8 c arg2 X k 2 0⟩ ::
   ⟨Rect.unit (k0_off24 k) S1x32x128.size (k0_off24_inb k), pay8 c arg2 X k 1 8⟩ ::
   ⟨Rect.unit (k0_off23 k) S1x32x128.size (k0_off23_inb k), pay8 c arg2 X k 1 7⟩ ::
   ⟨Rect.unit (k0_off22 k) S1x32x128.size (k0_off22_inb k), pay8 c arg2 X k 1 6⟩ ::
   ⟨Rect.unit (k0_off21 k) S1x32x128.size (k0_off21_inb k), pay8 c arg2 X k 1 5⟩ ::
   ⟨Rect.unit (k0_off20 k) S1x32x128.size (k0_off20_inb k), pay8 c arg2 X k 1 4⟩ ::
   ⟨Rect.unit (k0_off19 k) S1x32x128.size (k0_off19_inb k), pay8 c arg2 X k 1 3⟩ ::
   ⟨Rect.unit (k0_off18 k) S1x32x128.size (k0_off18_inb k), pay8 c arg2 X k 1 2⟩ ::
   ⟨Rect.unit (k0_off17 k) S1x32x128.size (k0_off17_inb k), pay8 c arg2 X k 1 1⟩ ::
   ⟨Rect.unit (k0_off16 k) S1x32x128.size (k0_off16_inb k), pay8 c arg2 X k 1 0⟩ ::
   ⟨Rect.unit (k0_off15 k) S1x32x128.size (k0_off15_inb k), pay8 c arg2 X k 0 8⟩ ::
   ⟨Rect.unit (k0_off14 k) S1x32x128.size (k0_off14_inb k), pay8 c arg2 X k 0 7⟩ ::
   ⟨Rect.unit (k0_off13 k) S1x32x128.size (k0_off13_inb k), pay8 c arg2 X k 0 6⟩ ::
   ⟨Rect.unit (k0_off12 k) S1x32x128.size (k0_off12_inb k), pay8 c arg2 X k 0 5⟩ ::
   ⟨Rect.unit (k0_off11 k) S1x32x128.size (k0_off11_inb k), pay8 c arg2 X k 0 4⟩ ::
   ⟨Rect.unit (k0_off10 k) S1x32x128.size (k0_off10_inb k), pay8 c arg2 X k 0 3⟩ ::
   ⟨Rect.unit (k0_off9 k) S1x32x128.size (k0_off9_inb k), pay8 c arg2 X k 0 2⟩ ::
   ⟨Rect.unit (k0_off8 k) S1x32x128.size (k0_off8_inb k), pay8 c arg2 X k 0 1⟩ ::
   ⟨Rect.unit (k0_off7 k) S1x32x128.size (k0_off7_inb k), pay8 c arg2 X k 0 0⟩ :: []

theorem pos21 : ∀ a : Fin 2, 0 < (![2, 1] : Fin 2 → Nat) a := by decide

/-- Every second row from an offset. -/
abbrev rect5 (k : Fin k0_t1_loop.trips) (h : Fin 2) : Rect S512x128 := { off := k0_off5 k (BitVec.ofNat 32 (16 * h.val)), size := S8x128.size, stride := ![2, 1], inb := k0_off5_inb k h, stride_pos := pos21 }
abbrev rect6 (k : Fin k0_t1_loop.trips) (h : Fin 2) : Rect S512x128 := { off := k0_off6 k (BitVec.ofNat 32 (16 * h.val)), size := S8x128.size, stride := ![2, 1], inb := k0_off6_inb k h, stride_pos := pos21 }

def list10 (c : Dev nD) (arg2 : Memref sig .tc .vmem S2304x8x128 .bf16) (X : Bf (F := F) c arg2) (k : Fin k0_t1_loop.trips) : List (View.Piece (Elt F) S512x128 .f32) :=
  [⟨rect6 k 1, scaleOf (oddMax (raws c arg2 X k 1))⟩, ⟨rect5 k 1, scaleOf (evenMax (raws c arg2 X k 1))⟩,
   ⟨rect6 k 0, scaleOf (oddMax (raws c arg2 X k 0))⟩, ⟨rect5 k 0, scaleOf (evenMax (raws c arg2 X k 0))⟩]

section
variable (c : Dev nD) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole) (X : Bf (F := F) c arg2) (k : Fin k0_t1_loop.trips)

unseal Cert.Proof.KI.trip in
theorem list8_eq : (trip c i arg2 harg2 arg3 harg3 arg4 harg4 arg5 harg5 arg6 harg6 arg7 harg7 arg8 harg8 arg9 harg9 arg10 harg10 X k).1 = list8 c arg2 X k := rfl

unseal Cert.Proof.KI.trip in
theorem list10_eq : (trip c i arg2 harg2 arg3 harg3 arg4 harg4 arg5 harg5 arg6 harg6 arg7 harg7 arg8 harg8 arg9 harg9 arg10 harg10 X k).2.1 = list10 c arg2 X k := rfl
end

theorem off7_eq : ∀ k : Fin k0_t1_loop.trips, k0_off7 k = ![0, 32 * k.val, 0] := by decide +kernel
theorem off8_eq : ∀ k : Fin k0_t1_loop.trips, k0_off8 k = ![0, 32 * k.val, 128] := by decide +kernel
theorem off9_eq : ∀ k : Fin k0_t1_loop.trips, k0_off9 k = ![0, 32 * k.val, 256] := by decide +kernel
theorem off10_eq : ∀ k : Fin k0_t1_loop.trips, k0_off10 k = ![0, 32 * k.val, 384] := by decide +kernel
theorem off11_eq : ∀ k : Fin k0_t1_loop.trips, k0_off11 k = ![0, 32 * k.val, 512] := by decide +kernel
theorem off12_eq : ∀ k : Fin k0_t1_loop.trips, k0_off12 k = ![0, 32 * k.val, 640] := by decide +kernel
theorem off13_eq : ∀ k : Fin k0_t1_loop.trips, k0_off13 k = ![0, 32 * k.val, 768] := by decide +kernel
theorem off14_eq : ∀ k : Fin k0_t1_loop.trips, k0_off14 k = ![0, 32 * k.val, 896] := by decide +kernel
theorem off15_eq : ∀ k : Fin k0_t1_loop.trips, k0_off15 k = ![0, 32 * k.val, 1024] := by decide +kernel
theorem off16_eq : ∀ k : Fin k0_t1_loop.trips, k0_off16 k = ![0, 32 * k.val, 1152] := by decide +kernel
theorem off17_eq : ∀ k : Fin k0_t1_loop.trips, k0_off17 k = ![0, 32 * k.val, 1280] := by decide +kernel
theorem off18_eq : ∀ k : Fin k0_t1_loop.trips, k0_off18 k = ![0, 32 * k.val, 1408] := by decide +kernel
theorem off19_eq : ∀ k : Fin k0_t1_loop.trips, k0_off19 k = ![0, 32 * k.val, 1536] := by decide +kernel
theorem off20_eq : ∀ k : Fin k0_t1_loop.trips, k0_off20 k = ![0, 32 * k.val, 1664] := by decide +kernel
theorem off21_eq : ∀ k : Fin k0_t1_loop.trips, k0_off21 k = ![0, 32 * k.val, 1792] := by decide +kernel
theorem off22_eq : ∀ k : Fin k0_t1_loop.trips, k0_off22 k = ![0, 32 * k.val, 1920] := by decide +kernel
theorem off23_eq : ∀ k : Fin k0_t1_loop.trips, k0_off23 k = ![0, 32 * k.val, 2048] := by decide +kernel
theorem off24_eq : ∀ k : Fin k0_t1_loop.trips, k0_off24 k = ![0, 32 * k.val, 2176] := by decide +kernel
theorem off25_eq : ∀ k : Fin k0_t1_loop.trips, k0_off25 k = ![0, 32 * k.val, 2304] := by decide +kernel
theorem off26_eq : ∀ k : Fin k0_t1_loop.trips, k0_off26 k = ![0, 32 * k.val, 2432] := by decide +kernel
theorem off27_eq : ∀ k : Fin k0_t1_loop.trips, k0_off27 k = ![0, 32 * k.val, 2560] := by decide +kernel
theorem off28_eq : ∀ k : Fin k0_t1_loop.trips, k0_off28 k = ![0, 32 * k.val, 2688] := by decide +kernel
theorem off29_eq : ∀ k : Fin k0_t1_loop.trips, k0_off29 k = ![0, 32 * k.val, 2816] := by decide +kernel
theorem off30_eq : ∀ k : Fin k0_t1_loop.trips, k0_off30 k = ![0, 32 * k.val, 2944] := by decide +kernel
theorem off31_eq : ∀ k : Fin k0_t1_loop.trips, k0_off31 k = ![0, 32 * k.val, 3072] := by decide +kernel
theorem off32_eq : ∀ k : Fin k0_t1_loop.trips, k0_off32 k = ![0, 32 * k.val, 3200] := by decide +kernel
theorem off33_eq : ∀ k : Fin k0_t1_loop.trips, k0_off33 k = ![0, 32 * k.val, 3328] := by decide +kernel
theorem off34_eq : ∀ k : Fin k0_t1_loop.trips, k0_off34 k = ![0, 32 * k.val, 3456] := by decide +kernel
theorem off35_eq : ∀ k : Fin k0_t1_loop.trips, k0_off35 k = ![0, 32 * k.val, 3584] := by decide +kernel
theorem off36_eq : ∀ k : Fin k0_t1_loop.trips, k0_off36 k = ![0, 32 * k.val, 3712] := by decide +kernel
theorem off37_eq : ∀ k : Fin k0_t1_loop.trips, k0_off37 k = ![0, 32 * k.val, 3840] := by decide +kernel
theorem off38_eq : ∀ k : Fin k0_t1_loop.trips, k0_off38 k = ![0, 32 * k.val, 3968] := by decide +kernel
theorem off39_eq : ∀ k : Fin k0_t1_loop.trips, k0_off39 k = ![0, 32 * k.val, 4096] := by decide +kernel
theorem off40_eq : ∀ k : Fin k0_t1_loop.trips, k0_off40 k = ![0, 32 * k.val, 4224] := by decide +kernel
theorem off41_eq : ∀ k : Fin k0_t1_loop.trips, k0_off41 k = ![0, 32 * k.val, 4352] := by decide +kernel
theorem off42_eq : ∀ k : Fin k0_t1_loop.trips, k0_off42 k = ![0, 32 * k.val, 4480] := by decide +kernel

theorem off5_eq : ∀ (k : Fin k0_t1_loop.trips) (h : Fin 2), k0_off5 k (BitVec.ofNat 32 (16 * h.val)) = ![32 * k.val + 16 * h.val, 0] := by decide +kernel
theorem off6_eq : ∀ (k : Fin k0_t1_loop.trips) (h : Fin 2), k0_off6 k (BitVec.ofNat 32 (16 * h.val)) = ![32 * k.val + 16 * h.val + 1, 0] := by decide +kernel

section
variable (c : Dev nD) (arg2 : Memref sig .tc .vmem S2304x8x128 .bf16) (X : Bf (F := Ideal) c arg2) (k : Fin k0_t1_loop.trips)

theorem codeOf_apply (a b : FVec Ideal S16x128 .bf16) (z : Fin 1) (r : Fin 32) (l : Fin 128) :
    codeOf (F := Ideal) a b (ix3 z r l) = if h : r.val < 16 then a (ix2 ⟨r.val, h⟩ l) else b (ix2 ⟨r.val - 16, by omega⟩ l) := by
  pointwise [codeOf]

theorem piece8 (hg : Good (rd c arg2 X)) (p : Fin 4) (j : Fin 9) (off : Fin 3 → Nat) (inb : ∀ a, off a + S1x32x128.size a ≤ S1x512x4608.size a)
    (ho : off = ![0, 32 * k.val, 1152 * p.val + 128 * j.val]) (x : (Rect.unit (s := S1x512x4608) off S1x32x128.size inb).shape.Idx) :
    pay8 c arg2 X k p j x = G8 (rd c arg2 X) ((Rect.unit (s := S1x512x4608) off S1x32x128.size inb).emb x) := by
  subst ho
  have hk := klt k
  obtain ⟨z, r, l, rfl⟩ : ∃ (z : Fin 1) (r : Fin 32) (l : Fin 128), x = ix3 z r l := ⟨x 0, x 1, x 2, eq_ix3 x⟩
  refine (codeOf_apply _ _ z r l).trans ?_
  unfold G8
  have e1 : ((Rect.unit (s := S1x512x4608) ![0, 32 * k.val, 1152 * p.val + 128 * j.val] S1x32x128.size inb).emb (ix3 z r l)) 1
      = (⟨32 * k.val + r.val, by omega⟩ : Fin 512) := Fin.ext (by show 32 * k.val + 1 * r.val = 32 * k.val + r.val; omega)
  have e2 : ((Rect.unit (s := S1x512x4608) ![0, 32 * k.val, 1152 * p.val + 128 * j.val] S1x32x128.size inb).emb (ix3 z r l)) 2
      = (⟨1152 * p.val + 128 * j.val + l.val, by omega⟩ : Fin 4608) := Fin.ext (by show 1152 * p.val + 128 * j.val + 1 * l.val = _; show _ = 1152 * p.val + 128 * j.val + l.val; omega)
  rw [e1, e2]
  by_cases hr : r.val < 16
  · rw [dif_pos hr, tile_codes c arg2 X k hg]
    refine congrArg (fun r => codes (rd c arg2 X) r _) ?_
    exact Fin.ext (by show 32 * k.val + 16 * 0 + r.val = 32 * k.val + r.val; omega)
  · rw [dif_neg hr, tile_codes c arg2 X k hg]
    refine congrArg (fun r => codes (rd c arg2 X) r _) ?_
    exact Fin.ext (by show 32 * k.val + 16 * 1 + (r.val - 16) = 32 * k.val + r.val; omega)

theorem mem8 (q : Nat) (off : Fin 3 → Nat) (inb : ∀ a, off a + S1x32x128.size a ≤ S1x512x4608.size a) (ho : off = ![0, 32 * k.val, q]) (y : S1x512x4608.Idx) :
    y ∈ (Rect.unit (s := S1x512x4608) off S1x32x128.size inb).set ↔ (32 * k.val ≤ (y 1).val ∧ (y 1).val < 32 * k.val + 32) ∧ q ≤ (y 2).val ∧ (y 2).val < q + 128 := by
  subst ho
  rw [Rect.mem_set_unit]
  constructor
  · intro h; exact ⟨h 1, h 2⟩
  · intro h a
    match a with
    | 0 => exact ⟨Nat.zero_le _, (y 0).isLt⟩
    | 1 => exact h.1
    | 2 => exact h.2

theorem out8 (y : S1x512x4608.Idx) (hy : (y 1).val < 32 * k.val ∨ 32 * k.val + 32 ≤ (y 1).val) (q : Nat) (off : Fin 3 → Nat)
    (inb : ∀ a, off a + S1x32x128.size a ≤ S1x512x4608.size a) (ho : off = ![0, 32 * k.val, q]) : y ∉ (Rect.unit (s := S1x512x4608) off S1x32x128.size inb).set := fun h => by
  have h1 := ((mem8 k q off inb ho y).1 h).1
  omega

theorem pieces8 (hg : Good (rd c arg2 X)) : View.PiecesOf (G8 (rd c arg2 X)) (list8 c arg2 X k) :=
  ⟨piece8 c arg2 X k hg 3 8 _ (k0_off42_inb k) (off42_eq k),
   piece8 c arg2 X k hg 3 7 _ (k0_off41_inb k) (off41_eq k),
   piece8 c arg2 X k hg 3 6 _ (k0_off40_inb k) (off40_eq k),
   piece8 c arg2 X k hg 3 5 _ (k0_off39_inb k) (off39_eq k),
   piece8 c arg2 X k hg 3 4 _ (k0_off38_inb k) (off38_eq k),
   piece8 c arg2 X k hg 3 3 _ (k0_off37_inb k) (off37_eq k),
   piece8 c arg2 X k hg 3 2 _ (k0_off36_inb k) (off36_eq k),
   piece8 c arg2 X k hg 3 1 _ (k0_off35_inb k) (off35_eq k),
   piece8 c arg2 X k hg 3 0 _ (k0_off34_inb k) (off34_eq k),
   piece8 c arg2 X k hg 2 8 _ (k0_off33_inb k) (off33_eq k),
   piece8 c arg2 X k hg 2 7 _ (k0_off32_inb k) (off32_eq k),
   piece8 c arg2 X k hg 2 6 _ (k0_off31_inb k) (off31_eq k),
   piece8 c arg2 X k hg 2 5 _ (k0_off30_inb k) (off30_eq k),
   piece8 c arg2 X k hg 2 4 _ (k0_off29_inb k) (off29_eq k),
   piece8 c arg2 X k hg 2 3 _ (k0_off28_inb k) (off28_eq k),
   piece8 c arg2 X k hg 2 2 _ (k0_off27_inb k) (off27_eq k),
   piece8 c arg2 X k hg 2 1 _ (k0_off26_inb k) (off26_eq k),
   piece8 c arg2 X k hg 2 0 _ (k0_off25_inb k) (off25_eq k),
   piece8 c arg2 X k hg 1 8 _ (k0_off24_inb k) (off24_eq k),
   piece8 c arg2 X k hg 1 7 _ (k0_off23_inb k) (off23_eq k),
   piece8 c arg2 X k hg 1 6 _ (k0_off22_inb k) (off22_eq k),
   piece8 c arg2 X k hg 1 5 _ (k0_off21_inb k) (off21_eq k),
   piece8 c arg2 X k hg 1 4 _ (k0_off20_inb k) (off20_eq k),
   piece8 c arg2 X k hg 1 3 _ (k0_off19_inb k) (off19_eq k),
   piece8 c arg2 X k hg 1 2 _ (k0_off18_inb k) (off18_eq k),
   piece8 c arg2 X k hg 1 1 _ (k0_off17_inb k) (off17_eq k),
   piece8 c arg2 X k hg 1 0 _ (k0_off16_inb k) (off16_eq k),
   piece8 c arg2 X k hg 0 8 _ (k0_off15_inb k) (off15_eq k),
   piece8 c arg2 X k hg 0 7 _ (k0_off14_inb k) (off14_eq k),
   piece8 c arg2 X k hg 0 6 _ (k0_off13_inb k) (off13_eq k),
   piece8 c arg2 X k hg 0 5 _ (k0_off12_inb k) (off12_eq k),
   piece8 c arg2 X k hg 0 4 _ (k0_off11_inb k) (off11_eq k),
   piece8 c arg2 X k hg 0 3 _ (k0_off10_inb k) (off10_eq k),
   piece8 c arg2 X k hg 0 2 _ (k0_off9_inb k) (off9_eq k),
   piece8 c arg2 X k hg 0 1 _ (k0_off8_inb k) (off8_eq k),
   piece8 c arg2 X k hg 0 0 _ (k0_off7_inb k) (off7_eq k), trivial⟩

theorem miss8 (y : S1x512x4608.Idx) (hy : (y 1).val < 32 * k.val ∨ 32 * k.val + 32 ≤ (y 1).val) : ∀ p ∈ list8 c arg2 X k, y ∉ p.1.set := by
  unfold list8
  refine List.forall_mem_cons.2 ⟨out8 k y hy _ _ (k0_off42_inb k) (off42_eq k), ?_⟩
  refine List.forall_mem_cons.2 ⟨out8 k y hy _ _ (k0_off41_inb k) (off41_eq k), ?_⟩
  refine List.forall_mem_cons.2 ⟨out8 k y hy _ _ (k0_off40_inb k) (off40_eq k), ?_⟩
  refine List.forall_mem_cons.2 ⟨out8 k y hy _ _ (k0_off39_inb k) (off39_eq k), ?_⟩
  refine List.forall_mem_cons.2 ⟨out8 k y hy _ _ (k0_off38_inb k) (off38_eq k), ?_⟩
  refine List.forall_mem_cons.2 ⟨out8 k y hy _ _ (k0_off37_inb k) (off37_eq k), ?_⟩
  refine List.forall_mem_cons.2 ⟨out8 k y hy _ _ (k0_off36_inb k) (off36_eq k), ?_⟩
  refine List.forall_mem_cons.2 ⟨out8 k y hy _ _ (k0_off35_inb k) (off35_eq k), ?_⟩
  refine List.forall_mem_cons.2 ⟨out8 k y hy _ _ (k0_off34_inb k) (off34_eq k), ?_⟩
  refine List.forall_mem_cons.2 ⟨out8 k y hy _ _ (k0_off33_inb k) (off33_eq k), ?_⟩
  refine List.forall_mem_cons.2 ⟨out8 k y hy _ _ (k0_off32_inb k) (off32_eq k), ?_⟩
  refine List.forall_mem_cons.2 ⟨out8 k y hy _ _ (k0_off31_inb k) (off31_eq k), ?_⟩
  refine List.forall_mem_cons.2 ⟨out8 k y hy _ _ (k0_off30_inb k) (off30_eq k), ?_⟩
  refine List.forall_mem_cons.2 ⟨out8 k y hy _ _ (k0_off29_inb k) (off29_eq k), ?_⟩
  refine List.forall_mem_cons.2 ⟨out8 k y hy _ _ (k0_off28_inb k) (off28_eq k), ?_⟩
  refine List.forall_mem_cons.2 ⟨out8 k y hy _ _ (k0_off27_inb k) (off27_eq k), ?_⟩
  refine List.forall_mem_cons.2 ⟨out8 k y hy _ _ (k0_off26_inb k) (off26_eq k), ?_⟩
  refine List.forall_mem_cons.2 ⟨out8 k y hy _ _ (k0_off25_inb k) (off25_eq k), ?_⟩
  refine List.forall_mem_cons.2 ⟨out8 k y hy _ _ (k0_off24_inb k) (off24_eq k), ?_⟩
  refine List.forall_mem_cons.2 ⟨out8 k y hy _ _ (k0_off23_inb k) (off23_eq k), ?_⟩
  refine List.forall_mem_cons.2 ⟨out8 k y hy _ _ (k0_off22_inb k) (off22_eq k), ?_⟩
  refine List.forall_mem_cons.2 ⟨out8 k y hy _ _ (k0_off21_inb k) (off21_eq k), ?_⟩
  refine List.forall_mem_cons.2 ⟨out8 k y hy _ _ (k0_off20_inb k) (off20_eq k), ?_⟩
  refine List.forall_mem_cons.2 ⟨out8 k y hy _ _ (k0_off19_inb k) (off19_eq k), ?_⟩
  refine List.forall_mem_cons.2 ⟨out8 k y hy _ _ (k0_off18_inb k) (off18_eq k), ?_⟩
  refine List.forall_mem_cons.2 ⟨out8 k y hy _ _ (k0_off17_inb k) (off17_eq k), ?_⟩
  refine List.forall_mem_cons.2 ⟨out8 k y hy _ _ (k0_off16_inb k) (off16_eq k), ?_⟩
  refine List.forall_mem_cons.2 ⟨out8 k y hy _ _ (k0_off15_inb k) (off15_eq k), ?_⟩
  refine List.forall_mem_cons.2 ⟨out8 k y hy _ _ (k0_off14_inb k) (off14_eq k), ?_⟩
  refine List.forall_mem_cons.2 ⟨out8 k y hy _ _ (k0_off13_inb k) (off13_eq k), ?_⟩
  refine List.forall_mem_cons.2 ⟨out8 k y hy _ _ (k0_off12_inb k) (off12_eq k), ?_⟩
  refine List.forall_mem_cons.2 ⟨out8 k y hy _ _ (k0_off11_inb k) (off11_eq k), ?_⟩
  refine List.forall_mem_cons.2 ⟨out8 k y hy _ _ (k0_off10_inb k) (off10_eq k), ?_⟩
  refine List.forall_mem_cons.2 ⟨out8 k y hy _ _ (k0_off9_inb k) (off9_eq k), ?_⟩
  refine List.forall_mem_cons.2 ⟨out8 k y hy _ _ (k0_off8_inb k) (off8_eq k), ?_⟩
  refine List.forall_mem_cons.2 ⟨out8 k y hy _ _ (k0_off7_inb k) (off7_eq k), ?_⟩
  exact fun p hp => absurd hp List.not_mem_nil

theorem cover8 (y : S1x512x4608.Idx) (hy : 32 * k.val ≤ (y 1).val ∧ (y 1).val < 32 * k.val + 32) : ∃ p ∈ list8 c arg2 X k, y ∈ p.1.set := by
  have h2 : (y 2).val < 4608 := (y 2).isLt
  unfold list8
  by_cases h42 : 4480 ≤ (y 2).val
  · exact ⟨_, List.mem_cons_self, (mem8 k _ _ (k0_off42_inb k) (off42_eq k) y).2 ⟨hy, h42, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h41 : 4352 ≤ (y 2).val
  · exact ⟨_, List.mem_cons_self, (mem8 k _ _ (k0_off41_inb k) (off41_eq k) y).2 ⟨hy, h41, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h40 : 4224 ≤ (y 2).val
  · exact ⟨_, List.mem_cons_self, (mem8 k _ _ (k0_off40_inb k) (off40_eq k) y).2 ⟨hy, h40, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h39 : 4096 ≤ (y 2).val
  · exact ⟨_, List.mem_cons_self, (mem8 k _ _ (k0_off39_inb k) (off39_eq k) y).2 ⟨hy, h39, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h38 : 3968 ≤ (y 2).val
  · exact ⟨_, List.mem_cons_self, (mem8 k _ _ (k0_off38_inb k) (off38_eq k) y).2 ⟨hy, h38, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h37 : 3840 ≤ (y 2).val
  · exact ⟨_, List.mem_cons_self, (mem8 k _ _ (k0_off37_inb k) (off37_eq k) y).2 ⟨hy, h37, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h36 : 3712 ≤ (y 2).val
  · exact ⟨_, List.mem_cons_self, (mem8 k _ _ (k0_off36_inb k) (off36_eq k) y).2 ⟨hy, h36, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h35 : 3584 ≤ (y 2).val
  · exact ⟨_, List.mem_cons_self, (mem8 k _ _ (k0_off35_inb k) (off35_eq k) y).2 ⟨hy, h35, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h34 : 3456 ≤ (y 2).val
  · exact ⟨_, List.mem_cons_self, (mem8 k _ _ (k0_off34_inb k) (off34_eq k) y).2 ⟨hy, h34, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h33 : 3328 ≤ (y 2).val
  · exact ⟨_, List.mem_cons_self, (mem8 k _ _ (k0_off33_inb k) (off33_eq k) y).2 ⟨hy, h33, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h32 : 3200 ≤ (y 2).val
  · exact ⟨_, List.mem_cons_self, (mem8 k _ _ (k0_off32_inb k) (off32_eq k) y).2 ⟨hy, h32, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h31 : 3072 ≤ (y 2).val
  · exact ⟨_, List.mem_cons_self, (mem8 k _ _ (k0_off31_inb k) (off31_eq k) y).2 ⟨hy, h31, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h30 : 2944 ≤ (y 2).val
  · exact ⟨_, List.mem_cons_self, (mem8 k _ _ (k0_off30_inb k) (off30_eq k) y).2 ⟨hy, h30, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h29 : 2816 ≤ (y 2).val
  · exact ⟨_, List.mem_cons_self, (mem8 k _ _ (k0_off29_inb k) (off29_eq k) y).2 ⟨hy, h29, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h28 : 2688 ≤ (y 2).val
  · exact ⟨_, List.mem_cons_self, (mem8 k _ _ (k0_off28_inb k) (off28_eq k) y).2 ⟨hy, h28, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h27 : 2560 ≤ (y 2).val
  · exact ⟨_, List.mem_cons_self, (mem8 k _ _ (k0_off27_inb k) (off27_eq k) y).2 ⟨hy, h27, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h26 : 2432 ≤ (y 2).val
  · exact ⟨_, List.mem_cons_self, (mem8 k _ _ (k0_off26_inb k) (off26_eq k) y).2 ⟨hy, h26, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h25 : 2304 ≤ (y 2).val
  · exact ⟨_, List.mem_cons_self, (mem8 k _ _ (k0_off25_inb k) (off25_eq k) y).2 ⟨hy, h25, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h24 : 2176 ≤ (y 2).val
  · exact ⟨_, List.mem_cons_self, (mem8 k _ _ (k0_off24_inb k) (off24_eq k) y).2 ⟨hy, h24, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h23 : 2048 ≤ (y 2).val
  · exact ⟨_, List.mem_cons_self, (mem8 k _ _ (k0_off23_inb k) (off23_eq k) y).2 ⟨hy, h23, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h22 : 1920 ≤ (y 2).val
  · exact ⟨_, List.mem_cons_self, (mem8 k _ _ (k0_off22_inb k) (off22_eq k) y).2 ⟨hy, h22, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h21 : 1792 ≤ (y 2).val
  · exact ⟨_, List.mem_cons_self, (mem8 k _ _ (k0_off21_inb k) (off21_eq k) y).2 ⟨hy, h21, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h20 : 1664 ≤ (y 2).val
  · exact ⟨_, List.mem_cons_self, (mem8 k _ _ (k0_off20_inb k) (off20_eq k) y).2 ⟨hy, h20, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h19 : 1536 ≤ (y 2).val
  · exact ⟨_, List.mem_cons_self, (mem8 k _ _ (k0_off19_inb k) (off19_eq k) y).2 ⟨hy, h19, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h18 : 1408 ≤ (y 2).val
  · exact ⟨_, List.mem_cons_self, (mem8 k _ _ (k0_off18_inb k) (off18_eq k) y).2 ⟨hy, h18, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h17 : 1280 ≤ (y 2).val
  · exact ⟨_, List.mem_cons_self, (mem8 k _ _ (k0_off17_inb k) (off17_eq k) y).2 ⟨hy, h17, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h16 : 1152 ≤ (y 2).val
  · exact ⟨_, List.mem_cons_self, (mem8 k _ _ (k0_off16_inb k) (off16_eq k) y).2 ⟨hy, h16, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h15 : 1024 ≤ (y 2).val
  · exact ⟨_, List.mem_cons_self, (mem8 k _ _ (k0_off15_inb k) (off15_eq k) y).2 ⟨hy, h15, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h14 : 896 ≤ (y 2).val
  · exact ⟨_, List.mem_cons_self, (mem8 k _ _ (k0_off14_inb k) (off14_eq k) y).2 ⟨hy, h14, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h13 : 768 ≤ (y 2).val
  · exact ⟨_, List.mem_cons_self, (mem8 k _ _ (k0_off13_inb k) (off13_eq k) y).2 ⟨hy, h13, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h12 : 640 ≤ (y 2).val
  · exact ⟨_, List.mem_cons_self, (mem8 k _ _ (k0_off12_inb k) (off12_eq k) y).2 ⟨hy, h12, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h11 : 512 ≤ (y 2).val
  · exact ⟨_, List.mem_cons_self, (mem8 k _ _ (k0_off11_inb k) (off11_eq k) y).2 ⟨hy, h11, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h10 : 384 ≤ (y 2).val
  · exact ⟨_, List.mem_cons_self, (mem8 k _ _ (k0_off10_inb k) (off10_eq k) y).2 ⟨hy, h10, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h9 : 256 ≤ (y 2).val
  · exact ⟨_, List.mem_cons_self, (mem8 k _ _ (k0_off9_inb k) (off9_eq k) y).2 ⟨hy, h9, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  by_cases h8 : 128 ≤ (y 2).val
  · exact ⟨_, List.mem_cons_self, (mem8 k _ _ (k0_off8_inb k) (off8_eq k) y).2 ⟨hy, h8, by omega⟩⟩
  refine (fun ⟨p, hp, h⟩ => ⟨p, List.mem_cons_of_mem _ hp, h⟩ : (∃ p ∈ (_ : List (View.Piece (Elt Ideal) S1x512x4608 .fp8e4m3)), y ∈ p.1.set) → _) ?_
  exact ⟨_, List.mem_cons_self, (mem8 k _ _ (k0_off7_inb k) (off7_eq k) y).2 ⟨hy, Nat.zero_le _, by omega⟩⟩

/-- After a trip: its rows hold the codes, the others are as they were. -/
theorem after8 (hg : Good (rd c arg2 X)) {κ : Kind} {sp : Space} (v : View sig κ sp S1x512x4608 .fp8e4m3) (f : v.ty.Contents (Elt Ideal)) (y : S1x512x4608.Idx) :
    (32 * k.val ≤ (y 1).val ∧ (y 1).val < 32 * k.val + 32 → v.read (Elt Ideal) (v.writes (Elt Ideal) f (list8 c arg2 X k)) y = G8 (rd c arg2 X) y)
    ∧ ((y 1).val < 32 * k.val ∨ 32 * k.val + 32 ≤ (y 1).val → v.read (Elt Ideal) (v.writes (Elt Ideal) f (list8 c arg2 X k)) y = v.read (Elt Ideal) f y) :=
  ⟨fun hy => View.read_writes_apply_of_pieces v f _ _ (pieces8 c arg2 X k hg).mem y (cover8 c arg2 X k y hy),
   fun hy => View.read_writes_apply_of_forall_not_mem v f y _ (miss8 c arg2 X k y hy)⟩

theorem mem5 (h : Fin 2) (y : S512x128.Idx) : y ∈ (rect5 k h).set ↔ (∃ i < 8, (y 0).val = 32 * k.val + 16 * h.val + 2 * i) := by
  rw [LoadRect.mem_set]
  have e : (rect5 k h).off = ![32 * k.val + 16 * h.val, 0] := off5_eq k h
  rw [e]
  constructor
  · intro hy; exact hy 0
  · intro hy a
    match a with
    | 0 => exact hy
    | 1 => exact ⟨(y 1).val, (y 1).isLt, by show (y 1).val = 0 + 1 * (y 1).val; omega⟩

theorem mem6 (h : Fin 2) (y : S512x128.Idx) : y ∈ (rect6 k h).set ↔ (∃ i < 8, (y 0).val = 32 * k.val + 16 * h.val + 1 + 2 * i) := by
  rw [LoadRect.mem_set]
  have e : (rect6 k h).off = ![32 * k.val + 16 * h.val + 1, 0] := off6_eq k h
  rw [e]
  constructor
  · intro hy; exact hy 0
  · intro hy a
    match a with
    | 0 => exact hy
    | 1 => exact ⟨(y 1).val, (y 1).isLt, by show (y 1).val = 0 + 1 * (y 1).val; omega⟩

theorem piece5 (hg : Good (rd c arg2 X)) (h : Fin 2) (x : (rect5 k h).shape.Idx) :
    scaleOf (evenMax (raws c arg2 X k h)) x = G10 (rd c arg2 X) ((rect5 k h).emb x) := by
  obtain ⟨i, l, rfl⟩ : ∃ (i : Fin 8) (l : Fin 128), x = ix2 i l := ⟨x 0, x 1, eq_ix2 x⟩
  refine (scale_even c arg2 X k hg h i l).trans ?_
  unfold G10
  congr 2
  refine Fin.ext ?_
  show 32 * k.val + 16 * h.val + 2 * i.val + 0 = k0_off5 k (BitVec.ofNat 32 (16 * h.val)) 0 + 2 * i.val
  rw [off5_eq]; rfl

theorem piece6 (hg : Good (rd c arg2 X)) (h : Fin 2) (x : (rect6 k h).shape.Idx) :
    scaleOf (oddMax (raws c arg2 X k h)) x = G10 (rd c arg2 X) ((rect6 k h).emb x) := by
  obtain ⟨i, l, rfl⟩ : ∃ (i : Fin 8) (l : Fin 128), x = ix2 i l := ⟨x 0, x 1, eq_ix2 x⟩
  refine (scale_odd c arg2 X k hg h i l).trans ?_
  unfold G10
  congr 2
  refine Fin.ext ?_
  show 32 * k.val + 16 * h.val + 2 * i.val + 1 = k0_off6 k (BitVec.ofNat 32 (16 * h.val)) 0 + 2 * i.val
  rw [off6_eq]
  show _ = 32 * k.val + 16 * h.val + 1 + 2 * i.val
  omega

theorem pieces10 (hg : Good (rd c arg2 X)) : View.PiecesOf (G10 (rd c arg2 X)) (list10 c arg2 X k) :=
  ⟨piece6 c arg2 X k hg 1, piece5 c arg2 X k hg 1, piece6 c arg2 X k hg 0, piece5 c arg2 X k hg 0, trivial⟩

theorem miss10 (y : S512x128.Idx) (hy : (y 0).val < 32 * k.val ∨ 32 * k.val + 32 ≤ (y 0).val) : ∀ p ∈ list10 c arg2 X k, y ∉ p.1.set := by
  unfold list10
  refine List.forall_mem_cons.2 ⟨fun h => ?_, List.forall_mem_cons.2 ⟨fun h => ?_, List.forall_mem_cons.2 ⟨fun h => ?_, List.forall_mem_cons.2 ⟨fun h => ?_, fun p hp => absurd hp List.not_mem_nil⟩⟩⟩⟩
  · obtain ⟨i, hi, h⟩ := (mem6 k 1 y).1 h
    simp only [Fin.val_one] at h; omega
  · obtain ⟨i, hi, h⟩ := (mem5 k 1 y).1 h
    simp only [Fin.val_one] at h; omega
  · obtain ⟨i, hi, h⟩ := (mem6 k 0 y).1 h
    simp only [Fin.val_zero] at h; omega
  · obtain ⟨i, hi, h⟩ := (mem5 k 0 y).1 h
    simp only [Fin.val_zero] at h; omega

theorem cover10 (y : S512x128.Idx) (hy : 32 * k.val ≤ (y 0).val ∧ (y 0).val < 32 * k.val + 32) : ∃ p ∈ list10 c arg2 X k, y ∈ p.1.set := by
  obtain ⟨n, hn, e⟩ : ∃ n < 32, (y 0).val = 32 * k.val + n := ⟨(y 0).val - 32 * k.val, by omega, by omega⟩
  unfold list10
  by_cases h16 : n < 16
  · rcases Nat.mod_two_eq_zero_or_one n with h | h
    · exact ⟨_, .tail _ (.tail _ (.tail _ (.head _))), (mem5 k 0 y).2 ⟨n / 2, by omega, by simp only [Fin.val_zero]; omega⟩⟩
    · exact ⟨_, .tail _ (.tail _ (.head _)), (mem6 k 0 y).2 ⟨n / 2, by omega, by simp only [Fin.val_zero]; omega⟩⟩
  · rcases Nat.mod_two_eq_zero_or_one n with h | h
    · exact ⟨_, .tail _ (.head _), (mem5 k 1 y).2 ⟨(n - 16) / 2, by omega, by simp only [Fin.val_one]; omega⟩⟩
    · exact ⟨_, .head _, (mem6 k 1 y).2 ⟨(n - 16) / 2, by omega, by simp only [Fin.val_one]; omega⟩⟩

theorem after10 (hg : Good (rd c arg2 X)) {κ : Kind} {sp : Space} (v : View sig κ sp S512x128 .f32) (f : v.ty.Contents (Elt Ideal)) (y : S512x128.Idx) :
    (32 * k.val ≤ (y 0).val ∧ (y 0).val < 32 * k.val + 32 → v.read (Elt Ideal) (v.writes (Elt Ideal) f (list10 c arg2 X k)) y = G10 (rd c arg2 X) y)
    ∧ ((y 0).val < 32 * k.val ∨ 32 * k.val + 32 ≤ (y 0).val → v.read (Elt Ideal) (v.writes (Elt Ideal) f (list10 c arg2 X k)) y = v.read (Elt Ideal) f y) :=
  ⟨fun hy => View.read_writes_apply_of_pieces v f _ _ (pieces10 c arg2 X k hg).mem y (cover10 c arg2 X k y hy),
   fun hy => View.read_writes_apply_of_forall_not_mem v f y _ (miss10 c arg2 X k y hy)⟩

end

end Cert.Proof.KI
end
-- ==== Proof.LoopValue.lean ====
module

public import proofs.«01_k».proof.Proof.TripValue

@[expose] public section

set_option maxRecDepth 16384

noncomputable section

/-! The token-group loop's invariant with values: the rows of the trips done hold their codes and their scales. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The rows below `32 n` read `G`. -/
def Done8 (x : Vec Ideal S2304x8x128 .bf16) (n : Nat) (d : Vec Ideal S1x512x4608 .fp8e4m3) : Prop := ∀ y : S1x512x4608.Idx, (y 1).val < 32 * n → d y = G8 x y
def Done10 (x : Vec Ideal S2304x8x128 .bf16) (n : Nat) (d : Vec Ideal S512x128 .f32) : Prop := ∀ y : S512x128.Idx, (y 0).val < 32 * n → d y = G10 x y

theorem done8_step (c : Dev nD) (arg2 : Memref sig .tc .vmem S2304x8x128 .bf16) (X : Bf (F := Ideal) c arg2) (k : Fin k0_t1_loop.trips) (hg : Good (rd c arg2 X))
    {κ : Kind} {sp : Space} (v : View sig κ sp S1x512x4608 .fp8e4m3) (f : v.ty.Contents (Elt Ideal)) (h : Done8 (rd c arg2 X) k.val (v.read (Elt Ideal) f)) :
    Done8 (rd c arg2 X) (k.val + 1) (v.read (Elt Ideal) (v.writes (Elt Ideal) f (list8 c arg2 X k))) := by
  intro y hy
  by_cases hk : (y 1).val < 32 * k.val
  · rw [(after8 c arg2 X k hg v f y).2 (.inl hk)]; exact h y hk
  · exact (after8 c arg2 X k hg v f y).1 ⟨by omega, by omega⟩

theorem done10_step (c : Dev nD) (arg2 : Memref sig .tc .vmem S2304x8x128 .bf16) (X : Bf (F := Ideal) c arg2) (k : Fin k0_t1_loop.trips) (hg : Good (rd c arg2 X))
    {κ : Kind} {sp : Space} (v : View sig κ sp S512x128 .f32) (f : v.ty.Contents (Elt Ideal)) (h : Done10 (rd c arg2 X) k.val (v.read (Elt Ideal) f)) :
    Done10 (rd c arg2 X) (k.val + 1) (v.read (Elt Ideal) (v.writes (Elt Ideal) f (list10 c arg2 X k))) := by
  intro y hy
  by_cases hk : (y 0).val < 32 * k.val
  · rw [(after10 c arg2 X k hg v f y).2 (.inl hk)]; exact h y hk
  · exact (after10 c arg2 X k hg v f y).1 ⟨by omega, by omega⟩

/-- One trip, with the pieces it stores named. -/
theorem trip_wp (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole) (X : Bf (F := Ideal) c arg2) (k : Fin k0_t1_loop.trips) (f8 : Bf (F := Ideal) c arg8) (f10 : Bf (F := Ideal) c arg10) :
    iprop(pt c arg2 X ∗ pt c arg8 f8 ∗ pt c arg10 f10)
      ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 k PUnit.unit)
          (fun _ => iprop(pt c arg2 X ∗ pt c arg8 (arg8.view.writes (Elt Ideal) f8 (list8 c arg2 X k)) ∗ pt c arg10 (arg10.view.writes (Elt Ideal) f10 (list10 c arg2 X k)))) := by
  have ht := (trip c i arg2 harg2 arg3 harg3 arg4 harg4 arg5 harg5 arg6 harg6 arg7 harg7 arg8 harg8 arg9 harg9 arg10 harg10 X k).2.2 E f8 f10
  have e8 := list8_eq c i arg2 harg2 arg3 harg3 arg4 harg4 arg5 harg5 arg6 harg6 arg7 harg7 arg8 harg8 arg9 harg9 arg10 harg10 X k
  have e10 := list10_eq c i arg2 harg2 arg3 harg3 arg4 harg4 arg5 harg5 arg6 harg6 arg7 harg7 arg8 harg8 arg9 harg9 arg10 harg10 X k
  generalize trip c i arg2 harg2 arg3 harg3 arg4 harg4 arg5 harg5 arg6 harg6 arg7 harg7 arg8 harg8 arg9 harg9 arg10 harg10 X k = t at ht e8 e10
  obtain ⟨L8, L10, h⟩ := t
  subst e8
  dsimp only at e10
  subst e10
  exact h E f8 f10

/-- The trip from the invariant to the invariant. -/
theorem trip_done (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole) (X : Bf (F := Ideal) c arg2) (hg : Good (rd c arg2 X)) (k : Fin k0_t1_loop.trips) :
    iprop(pt c arg2 X ∗ (∃ f, ⌜Done8 (rd c arg2 X) k (arg8.view.read (Elt Ideal) f)⌝ ∗ pt c arg8 f) ∗ (∃ f, ⌜Done10 (rd c arg2 X) k (arg10.view.read (Elt Ideal) f)⌝ ∗ pt c arg10 f))
      ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 k PUnit.unit)
          (fun _ => iprop(pt c arg2 X ∗ (∃ f, ⌜Done8 (rd c arg2 X) (k.val + 1) (arg8.view.read (Elt Ideal) f)⌝ ∗ pt c arg8 f) ∗ (∃ f, ⌜Done10 (rd c arg2 X) (k.val + 1) (arg10.view.read (Elt Ideal) f)⌝ ∗ pt c arg10 f))) := by
  iintro ⟨H2, ⟨%f8, %h8, H8⟩, ⟨%f10, %h10, H10⟩⟩
  iapply wp_wand_r
  isplitl [H2 H8 H10]
  · iapply (trip_wp c E i arg2 harg2 arg3 harg3 arg4 harg4 arg5 harg5 arg6 harg6 arg7 harg7 arg8 harg8 arg9 harg9 arg10 harg10 X k f8 f10)
    isplitl [H2]; · iexact H2
    isplitl [H8]; · iexact H8
    iexact H10
  iintro %a ⟨H2, H8, H10⟩
  isplitl [H2]; · iexact H2
  isplitl [H8]
  · iexists _; isplitr; swap; · iexact H8
    ipureintro; exact done8_step c arg2 X k hg _ f8 h8
  · iexists _; isplitr; swap; · iexact H10
    ipureintro; exact done10_step c arg2 X k hg _ f10 h10

/-- The token-group loop by its invariant. -/
@[sl_loop, instance_reducible] def loopInvV (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole) (X : Bf (F := Ideal) c arg2) (hg : Good (rd c arg2 X)) :
    LoopInvTy_k0_t1 (F := Ideal) Unit ℕ (UR sig nD τ) ℕ Variants.none c none E i arg2 harg2 arg3 harg3 arg4 harg4 arg5 harg5 arg6 harg6 arg7 harg7 arg8 harg8 arg9 harg9 arg10 harg10 where
  inv := fun k acc => iprop(pt c arg2 X ∗ (∃ f, ⌜Done8 (rd c arg2 X) k (arg8.view.read (Elt Ideal) f)⌝ ∗ pt c arg8 f) ∗ (∃ f, ⌜Done10 (rd c arg2 X) k (arg10.view.read (Elt Ideal) f)⌝ ∗ pt c arg10 f))
  step k acc := trip_done c E i arg2 harg2 arg3 harg3 arg4 harg4 arg5 harg5 arg6 harg6 arg7 harg7 arg8 harg8 arg9 harg9 arg10 harg10 X hg k

end Cert.Proof.KI
end
-- ==== Proof.Product.lean ====
module

public import proofs.«01_k».proof.Proof.LoopValue
public import Idealize.ShloMosaic.Lib.Pointwise
public import Idealize.ShloMosaic.Lib.VecWindow

@[expose] public section

set_option maxRecDepth 16384

noncomputable section

/-! What the kernel stores after the token-group loop: the scales off the scratch's diagonals, and the product by chunks of 512 columns. -/

namespace Cert.Proof.KI

open Cert.KernelIdeal Cert.KernelIdeal.Gen
open Idealize.ShloMosaic Idealize.ShloMosaic.TcCoe

/-- The scales of a block, as the row the kernel stores. -/
def G9 (x : Vec Ideal S2304x8x128 .bf16) : Vec Ideal S1x1x512 .f32 := fun j => Scal.kScale (quo x (j 2))

/-- The product of a block's codes with the weight, rescaled, with the bias and the position added. -/
def G7 (x : Vec Ideal S2304x8x128 .bf16) (w : Vec Ideal S4608x3072 .fp8e4m3) (ws b : Vec Ideal S1x3072 .f32) (p : Vec Ideal S512x3072 .bf16) : Vec Ideal S1x512x3072 .bf16 := fun j =>
  (∑ q : Fin 4608, codes x (j 1) q * w (ix2 q (j 2))) * Scal.kScale (quo x (j 1)) * ws (ix2 0 (j 2)) + b (ix2 0 (j 2)) + p (ix2 (j 1) (j 2))

theorem diag_sum (v : Vec Ideal S128x128 .f32) (l : Fin 128) :
    (∑ x : Fin 128, Scalar.select (IntOp.cmpi CmpIPredicate.eq (BitVec.ofNat 32 x.val) (BitVec.ofNat 32 l.val)) (v (ix2 x l)) (0 : EReal)) = v (ix2 l l) := by
  rw [Finset.sum_eq_single l]
  · have h : IntOp.cmpi CmpIPredicate.eq (BitVec.ofNat 32 l.val) (BitVec.ofNat 32 l.val) = 1#1 := by simp [IntOp.cmpi]
    rw [h]; rfl
  · intro x _ hx
    have h : IntOp.cmpi CmpIPredicate.eq (BitVec.ofNat 32 x.val) (BitVec.ofNat 32 l.val) = 0#1 := by
      have : BitVec.ofNat 32 x.val ≠ BitVec.ofNat 32 l.val := by
        intro h
        have h2 := congrArg BitVec.toNat h
        simp only [BitVec.toNat_ofNat] at h2
        rw [Nat.mod_eq_of_lt (by omega), Nat.mod_eq_of_lt (by omega)] at h2
        exact hx (Fin.ext h2)
      show BitVec.ofBool (BitVec.ofNat 32 x.val == BitVec.ofNat 32 l.val) = 0#1
      rw [beq_eq_false_iff_ne.mpr this]; rfl
    rw [h]; rfl
  · intro h; exact absurd (Finset.mem_univ _) h

theorem pay540_apply (v : Vec Ideal S128x128 .f32) (l : Fin 128) : k0_pay540 v (ix3 0 0 l) = v (ix2 l l) := by
  pointwise [k0_pay540]
  exact diag_sum v l

theorem pay541_apply (v : Vec Ideal S128x128 .f32) (l : Fin 128) : k0_pay541 v (ix3 0 0 l) = v (ix2 l l) := by
  pointwise [k0_pay541]
  exact diag_sum v l

theorem pay542_apply (v : Vec Ideal S128x128 .f32) (l : Fin 128) : k0_pay542 v (ix3 0 0 l) = v (ix2 l l) := by
  pointwise [k0_pay542]
  exact diag_sum v l

theorem pay543_apply (v : Vec Ideal S128x128 .f32) (l : Fin 128) :
    k0_pay543 (iota .tc S128x128 32 [0] iota_S128x128_d0_w32) (iota .tc S128x128 32 [1] iota_S128x128_d1_w32) v (ix3 0 0 l) = v (ix2 l l) := by
  pointwise [k0_pay543]
  exact diag_sum v l

/-- One chunk of the product at an element. -/
def chunk (a : Vec Ideal S1x512x4608 .fp8e4m3) (w : Vec Ideal S4608x512 .fp8e4m3) (s : Vec Ideal S512x128 .f32) (ws b : Vec Ideal S1x512 .f32) (p : Vec Ideal S512x512 .bf16) (i l : Fin 512) : EReal :=
  (∑ q : Fin 4608, a (ix3 0 i q) * w (ix2 q l)) * s (ix2 i 0) * ws (ix2 0 l) + b (ix2 0 l) + p (ix2 i l)

section
variable (a : Vec Ideal S1x512x4608 .fp8e4m3) (w : Vec Ideal S4608x512 .fp8e4m3) (s : Vec Ideal S512x128 .f32) (ws b : Vec Ideal S1x512 .f32) (p : Vec Ideal S512x512 .bf16) (i l : Fin 512)
  (hs : ∀ (i : Fin 512) (l : Fin 128), s (ix2 i l) = s (ix2 i 0))
include hs

theorem pay544_apply : k0_pay544 a w s ws b p (ix3 0 i l) = chunk a w s ws b p i l := by
  pointwise [k0_pay544]
  simp only [hs, dite_eq_ite, ite_self]
  rfl

theorem pay545_apply : k0_pay545 a w s ws b p (ix3 0 i l) = chunk a w s ws b p i l := by
  pointwise [k0_pay545]
  simp only [hs, dite_eq_ite, ite_self]
  rfl

theorem pay547_apply : k0_pay547 (k0_pay546 a w s ws) b p (ix3 0 i l) = chunk a w s ws b p i l := by
  pointwise [k0_pay547, k0_pay546]
  simp only [hs, dite_eq_ite, ite_self]
  rfl

theorem pay548_apply : k0_pay548 a w s ws b p (ix3 0 i l) = chunk a w s ws b p i l := by
  pointwise [k0_pay548]
  simp only [hs, dite_eq_ite, ite_self]
  rfl

theorem pay549_apply : k0_pay549 a w s ws b p (ix3 0 i l) = chunk a w s ws b p i l := by
  pointwise [k0_pay549]
  simp only [hs, dite_eq_ite, ite_self]
  rfl

theorem pay1_apply : k0_pay1 (k0_pay550 a w s ws) b p (ix3 0 i l) = chunk a w s ws b p i l := by
  pointwise [k0_pay1, k0_pay550]
  simp only [hs, dite_eq_ite, ite_self]
  rfl

end

section
variable {κ : Kind} {sp3 sp4 sp5 sp6 sp7 sp8 sp9 sp10 : Space}
  (v3 : View sig κ sp3 S4608x3072 .fp8e4m3) (f3 : v3.ty.Contents (Elt Ideal))
  (v4 : View sig κ sp4 S1x3072 .f32) (f4 : v4.ty.Contents (Elt Ideal)) (v5 : View sig κ sp5 S1x3072 .f32) (f5 : v5.ty.Contents (Elt Ideal))
  (v6 : View sig κ sp6 S512x3072 .bf16) (f6 : v6.ty.Contents (Elt Ideal)) (v7 : View sig κ sp7 S1x512x3072 .bf16) (f7 : v7.ty.Contents (Elt Ideal))
  (v8 : View sig κ sp8 S1x512x4608 .fp8e4m3) (f8 : v8.ty.Contents (Elt Ideal))
  (v9 : View sig κ sp9 S1x1x512 .f32) (f9 : v9.ty.Contents (Elt Ideal)) (v10 : View sig κ sp10 S512x128 .f32) (f10 : v10.ty.Contents (Elt Ideal))
  (x : Vec Ideal S2304x8x128 .bf16)

theorem done8_all {d : Vec Ideal S1x512x4608 .fp8e4m3} (h : Done8 x 16 d) : d = G8 x := funext fun y => h y (by have : (y 1).val < 512 := (y 1).isLt; omega)
theorem done10_all {d : Vec Ideal S512x128 .f32} (h : Done10 x 16 d) : d = G10 x := funext fun y => h y (by have : (y 0).val < 512 := (y 0).isLt; omega)

theorem diag_load (n : Nat) (h : ∀ a, (![n, 0] : Fin 2 → Nat) a + S128x128.size a ≤ S512x128.size a) (hv : v10.read (Elt Ideal) f10 = G10 x) (l : Fin 128) (y : Fin 512) (hy : y.val = n + l.val) :
    View.readAt (Elt Ideal) v10 (Rect.unit (s := S512x128) ![n, 0] S128x128.size h).toLoadRect f10 (ix2 l l) = Scal.kScale (quo x y) := by
  rw [View.readAt_apply, hv]
  show Scal.kScale (quo x _) = _
  congr 2
  apply Fin.ext
  show n + 1 * l.val = y.val
  omega

theorem piece9 (n : Nat) (h : ∀ a, (![0, 0, n] : Fin 3 → Nat) a + S1x1x128.size a ≤ S1x1x512.size a) (w : FVec Ideal S1x1x128 .f32)
    (hw : ∀ (l : Fin 128) (y : Fin 512), y.val = n + l.val → w (ix3 0 0 l) = Scal.kScale (quo x y)) (j : S1x1x128.Idx) :
    w j = G9 x ((Rect.unit (s := S1x1x512) ![0, 0, n] S1x1x128.size h).emb j) := by
  have e : j = ix3 0 0 (j 2) := by
    funext a; match a with
    | ⟨0, _⟩ => exact Subsingleton.elim (α := Fin 1) _ _
    | ⟨1, _⟩ => exact Subsingleton.elim (α := Fin 1) _ _
    | ⟨2, _⟩ => rfl
  conv_lhs => rw [e]
  exact hw (j 2) _ (show n + 1 * (j 2).val = n + (j 2).val by omega)

/-- The four chunks of scales stored. -/
abbrev list9 : List (View.Piece (Elt Ideal) S1x1x512 .f32) :=
    ⟨Rect.unit (s := S1x1x512) ![0, 0, 384] S1x1x128.size inb_S1x1x512_S1x1x128_0_0_384, k0_pay543 (iota .tc S128x128 32 [0] iota_S128x128_d0_w32) (iota .tc S128x128 32 [1] iota_S128x128_d1_w32) (View.readAt (Elt Ideal) v10 (Rect.unit (s := S512x128) ![384, 0] S128x128.size inb_S512x128_S128x128_384_0).toLoadRect f10)⟩ ::
    ⟨Rect.unit (s := S1x1x512) ![0, 0, 256] S1x1x128.size inb_S1x1x512_S1x1x128_0_0_256, k0_pay542 (View.readAt (Elt Ideal) v10 (Rect.unit (s := S512x128) ![256, 0] S128x128.size inb_S512x128_S128x128_256_0).toLoadRect f10)⟩ ::
    ⟨Rect.unit (s := S1x1x512) ![0, 0, 128] S1x1x128.size inb_S1x1x512_S1x1x128_0_0_128, k0_pay541 (View.readAt (Elt Ideal) v10 (Rect.unit (s := S512x128) ![128, 0] S128x128.size inb_S512x128_S128x128_128_0).toLoadRect f10)⟩ ::
    ⟨Rect.unit (s := S1x1x512) ![0, 0, 0] S1x1x128.size inb_S1x1x512_S1x1x128_0_0_0, k0_pay540 (View.readAt (Elt Ideal) v10 (Rect.unit (s := S512x128) ![0, 0] S128x128.size inb_S512x128_S128x128_0_0).toLoadRect f10)⟩ :: []

/-- The six chunks of the product stored. -/
abbrev list7 : List (View.Piece (Elt Ideal) S1x512x3072 .bf16) :=
    ⟨Rect.unit (s := S1x512x3072) ![0, 0, 2560] S1x512x512.size inb_S1x512x3072_S1x512x512_0_0_2560, k0_pay1 (k0_pay550 (View.readAt (Elt Ideal) v8 (Rect.unit (s := S1x512x4608) ![0, 0, 0] S1x512x4608.size inb_S1x512x4608_S1x512x4608_0_0_0).toLoadRect f8) (View.readAt (Elt Ideal) v3 (Rect.unit (s := S4608x3072) ![0, 2560] S4608x512.size inb_S4608x3072_S4608x512_0_2560).toLoadRect f3) (View.readAt (Elt Ideal) v10 (Rect.unit (s := S512x128) ![0, 0] S512x128.size inb_S512x128_S512x128_0_0).toLoadRect f10) (View.readAt (Elt Ideal) v4 (Rect.unit (s := S1x3072) ![0, 2560] S1x512.size inb_S1x3072_S1x512_0_2560).toLoadRect f4)) (View.readAt (Elt Ideal) v5 (Rect.unit (s := S1x3072) ![0, 2560] S1x512.size inb_S1x3072_S1x512_0_2560).toLoadRect f5) (View.readAt (Elt Ideal) v6 (Rect.unit (s := S512x3072) ![0, 2560] S512x512.size inb_S512x3072_S512x512_0_2560).toLoadRect f6)⟩ ::
    ⟨Rect.unit (s := S1x512x3072) ![0, 0, 2048] S1x512x512.size inb_S1x512x3072_S1x512x512_0_0_2048, k0_pay549 (View.readAt (Elt Ideal) v8 (Rect.unit (s := S1x512x4608) ![0, 0, 0] S1x512x4608.size inb_S1x512x4608_S1x512x4608_0_0_0).toLoadRect f8) (View.readAt (Elt Ideal) v3 (Rect.unit (s := S4608x3072) ![0, 2048] S4608x512.size inb_S4608x3072_S4608x512_0_2048).toLoadRect f3) (View.readAt (Elt Ideal) v10 (Rect.unit (s := S512x128) ![0, 0] S512x128.size inb_S512x128_S512x128_0_0).toLoadRect f10) (View.readAt (Elt Ideal) v4 (Rect.unit (s := S1x3072) ![0, 2048] S1x512.size inb_S1x3072_S1x512_0_2048).toLoadRect f4) (View.readAt (Elt Ideal) v5 (Rect.unit (s := S1x3072) ![0, 2048] S1x512.size inb_S1x3072_S1x512_0_2048).toLoadRect f5) (View.readAt (Elt Ideal) v6 (Rect.unit (s := S512x3072) ![0, 2048] S512x512.size inb_S512x3072_S512x512_0_2048).toLoadRect f6)⟩ ::
    ⟨Rect.unit (s := S1x512x3072) ![0, 0, 1536] S1x512x512.size inb_S1x512x3072_S1x512x512_0_0_1536, k0_pay548 (View.readAt (Elt Ideal) v8 (Rect.unit (s := S1x512x4608) ![0, 0, 0] S1x512x4608.size inb_S1x512x4608_S1x512x4608_0_0_0).toLoadRect f8) (View.readAt (Elt Ideal) v3 (Rect.unit (s := S4608x3072) ![0, 1536] S4608x512.size inb_S4608x3072_S4608x512_0_1536).toLoadRect f3) (View.readAt (Elt Ideal) v10 (Rect.unit (s := S512x128) ![0, 0] S512x128.size inb_S512x128_S512x128_0_0).toLoadRect f10) (View.readAt (Elt Ideal) v4 (Rect.unit (s := S1x3072) ![0, 1536] S1x512.size inb_S1x3072_S1x512_0_1536).toLoadRect f4) (View.readAt (Elt Ideal) v5 (Rect.unit (s := S1x3072) ![0, 1536] S1x512.size inb_S1x3072_S1x512_0_1536).toLoadRect f5) (View.readAt (Elt Ideal) v6 (Rect.unit (s := S512x3072) ![0, 1536] S512x512.size inb_S512x3072_S512x512_0_1536).toLoadRect f6)⟩ ::
    ⟨Rect.unit (s := S1x512x3072) ![0, 0, 1024] S1x512x512.size inb_S1x512x3072_S1x512x512_0_0_1024, k0_pay547 (k0_pay546 (View.readAt (Elt Ideal) v8 (Rect.unit (s := S1x512x4608) ![0, 0, 0] S1x512x4608.size inb_S1x512x4608_S1x512x4608_0_0_0).toLoadRect f8) (View.readAt (Elt Ideal) v3 (Rect.unit (s := S4608x3072) ![0, 1024] S4608x512.size inb_S4608x3072_S4608x512_0_1024).toLoadRect f3) (View.readAt (Elt Ideal) v10 (Rect.unit (s := S512x128) ![0, 0] S512x128.size inb_S512x128_S512x128_0_0).toLoadRect f10) (View.readAt (Elt Ideal) v4 (Rect.unit (s := S1x3072) ![0, 1024] S1x512.size inb_S1x3072_S1x512_0_1024).toLoadRect f4)) (View.readAt (Elt Ideal) v5 (Rect.unit (s := S1x3072) ![0, 1024] S1x512.size inb_S1x3072_S1x512_0_1024).toLoadRect f5) (View.readAt (Elt Ideal) v6 (Rect.unit (s := S512x3072) ![0, 1024] S512x512.size inb_S512x3072_S512x512_0_1024).toLoadRect f6)⟩ ::
    ⟨Rect.unit (s := S1x512x3072) ![0, 0, 512] S1x512x512.size inb_S1x512x3072_S1x512x512_0_0_512, k0_pay545 (View.readAt (Elt Ideal) v8 (Rect.unit (s := S1x512x4608) ![0, 0, 0] S1x512x4608.size inb_S1x512x4608_S1x512x4608_0_0_0).toLoadRect f8) (View.readAt (Elt Ideal) v3 (Rect.unit (s := S4608x3072) ![0, 512] S4608x512.size inb_S4608x3072_S4608x512_0_512).toLoadRect f3) (View.readAt (Elt Ideal) v10 (Rect.unit (s := S512x128) ![0, 0] S512x128.size inb_S512x128_S512x128_0_0).toLoadRect f10) (View.readAt (Elt Ideal) v4 (Rect.unit (s := S1x3072) ![0, 512] S1x512.size inb_S1x3072_S1x512_0_512).toLoadRect f4) (View.readAt (Elt Ideal) v5 (Rect.unit (s := S1x3072) ![0, 512] S1x512.size inb_S1x3072_S1x512_0_512).toLoadRect f5) (View.readAt (Elt Ideal) v6 (Rect.unit (s := S512x3072) ![0, 512] S512x512.size inb_S512x3072_S512x512_0_512).toLoadRect f6)⟩ ::
    ⟨Rect.unit (s := S1x512x3072) ![0, 0, 0] S1x512x512.size inb_S1x512x3072_S1x512x512_0_0_0, k0_pay544 (View.readAt (Elt Ideal) v8 (Rect.unit (s := S1x512x4608) ![0, 0, 0] S1x512x4608.size inb_S1x512x4608_S1x512x4608_0_0_0).toLoadRect f8) (View.readAt (Elt Ideal) v3 (Rect.unit (s := S4608x3072) ![0, 0] S4608x512.size inb_S4608x3072_S4608x512_0_0).toLoadRect f3) (View.readAt (Elt Ideal) v10 (Rect.unit (s := S512x128) ![0, 0] S512x128.size inb_S512x128_S512x128_0_0).toLoadRect f10) (View.readAt (Elt Ideal) v4 (Rect.unit (s := S1x3072) ![0, 0] S1x512.size inb_S1x3072_S1x512_0_0).toLoadRect f4) (View.readAt (Elt Ideal) v5 (Rect.unit (s := S1x3072) ![0, 0] S1x512.size inb_S1x3072_S1x512_0_0).toLoadRect f5) (View.readAt (Elt Ideal) v6 (Rect.unit (s := S512x3072) ![0, 0] S512x512.size inb_S512x3072_S512x512_0_0).toLoadRect f6)⟩ :: []

theorem read9 (hv : v10.read (Elt Ideal) f10 = G10 x) :
    v9.read (Elt Ideal) (v9.writes (Elt Ideal) f9 (list9 v10 f10)) = G9 x := by
  have hp : View.PiecesOf (G9 x) (list9 v10 f10) :=
    ⟨piece9 x 384 inb_S1x1x512_S1x1x128_0_0_384 _ (fun l y hy => (pay543_apply _ l).trans (diag_load v10 f10 x 384 inb_S512x128_S128x128_384_0 hv l y hy)),
     piece9 x 256 inb_S1x1x512_S1x1x128_0_0_256 _ (fun l y hy => (pay542_apply _ l).trans (diag_load v10 f10 x 256 inb_S512x128_S128x128_256_0 hv l y hy)),
     piece9 x 128 inb_S1x1x512_S1x1x128_0_0_128 _ (fun l y hy => (pay541_apply _ l).trans (diag_load v10 f10 x 128 inb_S512x128_S128x128_128_0 hv l y hy)),
     piece9 x 0 inb_S1x1x512_S1x1x128_0_0_0 _ (fun l y hy => (pay540_apply _ l).trans (diag_load v10 f10 x 0 inb_S512x128_S128x128_0_0 hv l y hy)), trivial⟩
  funext y
  refine View.read_writes_apply_of_pieces v9 f9 _ _ hp.mem y ?_
  have h0 : (y 0).val < 1 := (y 0).isLt
  have h1 : (y 1).val < 1 := (y 1).isLt
  have h2 : (y 2).val < 512 := (y 2).isLt
  have key : ∀ (n : Nat) (h : ∀ a, (![0, 0, n] : Fin 3 → Nat) a + S1x1x128.size a ≤ S1x1x512.size a), n ≤ (y 2).val → (y 2).val < n + 128 → y ∈ (Rect.unit (s := S1x1x512) ![0, 0, n] S1x1x128.size h).set := by
    intro n h ha hb
    rw [Rect.mem_set_unit]
    intro a; match a with
    | ⟨0, _⟩ => exact ⟨Nat.zero_le _, show (y 0).val < 0 + 1 by omega⟩
    | ⟨1, _⟩ => exact ⟨Nat.zero_le _, show (y 1).val < 0 + 1 by omega⟩
    | ⟨2, _⟩ => exact ⟨ha, hb⟩
  by_cases c1 : (y 2).val < 128
  · exact ⟨_, .tail _ (.tail _ (.tail _ (.head _))), key 0 inb_S1x1x512_S1x1x128_0_0_0 (by omega) (by omega)⟩
  by_cases c2 : (y 2).val < 256
  · exact ⟨_, .tail _ (.tail _ (.head _)), key 128 inb_S1x1x512_S1x1x128_0_0_128 (by omega) (by omega)⟩
  by_cases c3 : (y 2).val < 384
  · exact ⟨_, .tail _ (.head _), key 256 inb_S1x1x512_S1x1x128_0_0_256 (by omega) (by omega)⟩
  · exact ⟨_, .head _, key 384 inb_S1x1x512_S1x1x128_0_0_384 (by omega) (by omega)⟩

theorem piece7 (n : Nat) (h : ∀ a, (![0, 0, n] : Fin 3 → Nat) a + S1x512x512.size a ≤ S1x512x3072.size a)
    (h3 : ∀ a, (![0, n] : Fin 2 → Nat) a + S4608x512.size a ≤ S4608x3072.size a) (h4 : ∀ a, (![0, n] : Fin 2 → Nat) a + S1x512.size a ≤ S1x3072.size a)
    (h6 : ∀ a, (![0, n] : Fin 2 → Nat) a + S512x512.size a ≤ S512x3072.size a)
    (h8 : ∀ a, (![0, 0, 0] : Fin 3 → Nat) a + S1x512x4608.size a ≤ S1x512x4608.size a) (h10 : ∀ a, (![0, 0] : Fin 2 → Nat) a + S512x128.size a ≤ S512x128.size a)
    (hv8 : v8.read (Elt Ideal) f8 = G8 x) (hv : v10.read (Elt Ideal) f10 = G10 x)
    (pay : ∀ (a : Vec Ideal S1x512x4608 .fp8e4m3) (w : Vec Ideal S4608x512 .fp8e4m3) (s : Vec Ideal S512x128 .f32) (ws b : Vec Ideal S1x512 .f32) (p : Vec Ideal S512x512 .bf16), FVec Ideal S1x512x512 .bf16)
    (hpay : ∀ (a : Vec Ideal S1x512x4608 .fp8e4m3) (w : Vec Ideal S4608x512 .fp8e4m3) (s : Vec Ideal S512x128 .f32) (ws b : Vec Ideal S1x512 .f32) (p : Vec Ideal S512x512 .bf16) (i l : Fin 512),
      (∀ (i : Fin 512) (l : Fin 128), s (ix2 i l) = s (ix2 i 0)) → pay a w s ws b p (ix3 0 i l) = chunk a w s ws b p i l) (j : S1x512x512.Idx) :
    pay (View.readAt (Elt Ideal) v8 (Rect.unit (s := S1x512x4608) ![0, 0, 0] S1x512x4608.size h8).toLoadRect f8)
        (View.readAt (Elt Ideal) v3 (Rect.unit (s := S4608x3072) ![0, n] S4608x512.size h3).toLoadRect f3)
        (View.readAt (Elt Ideal) v10 (Rect.unit (s := S512x128) ![0, 0] S512x128.size h10).toLoadRect f10)
        (View.readAt (Elt Ideal) v4 (Rect.unit (s := S1x3072) ![0, n] S1x512.size h4).toLoadRect f4)
        (View.readAt (Elt Ideal) v5 (Rect.unit (s := S1x3072) ![0, n] S1x512.size h4).toLoadRect f5)
        (View.readAt (Elt Ideal) v6 (Rect.unit (s := S512x3072) ![0, n] S512x512.size h6).toLoadRect f6) j
      = G7 x (v3.read (Elt Ideal) f3) (v4.read (Elt Ideal) f4) (v5.read (Elt Ideal) f5) (v6.read (Elt Ideal) f6) ((Rect.unit (s := S1x512x3072) ![0, 0, n] S1x512x512.size h).emb j) := by
  rw [View.readAt_full v8, View.readAt_full v10, hv8, hv]
  obtain ⟨i, l, e⟩ : ∃ i l : Fin 512, j = ix3 0 i l := ⟨j 1, j 2, by
    funext a; match a with
    | ⟨0, _⟩ => exact Subsingleton.elim (α := Fin 1) _ _
    | ⟨1, _⟩ => rfl
    | ⟨2, _⟩ => rfl⟩
  subst e
  have hn : n + 512 ≤ 3072 := h 2
  have e : (Rect.unit (s := S1x512x3072) ![0, 0, n] S1x512x512.size h).emb (ix3 0 i l) = ix3 0 i ⟨n + l.val, by omega⟩ := by
    funext a; match a with
    | ⟨0, _⟩ => rfl
    | ⟨1, _⟩ => exact Fin.ext (show 0 + 1 * i.val = i.val by omega)
    | ⟨2, _⟩ => exact Fin.ext (show n + 1 * l.val = n + l.val by omega)
  rw [e, hpay _ _ _ _ _ _ _ _ (fun i l => rfl)]
  have e3 : ∀ q : Fin 4608, View.readAt (Elt Ideal) v3 (Rect.unit (s := S4608x3072) ![0, n] S4608x512.size h3).toLoadRect f3 (ix2 q l) = v3.read (Elt Ideal) f3 (ix2 q ⟨n + l.val, by omega⟩) := fun q =>
    congrArg (v3.read (Elt Ideal) f3) (by
      funext a; match a with
      | ⟨0, _⟩ => exact Fin.ext (show 0 + 1 * q.val = q.val by omega)
      | ⟨1, _⟩ => exact Fin.ext (show n + 1 * l.val = n + l.val by omega))
  have er : ∀ {sp : Space} (v : View sig κ sp S1x3072 .f32) (f : v.ty.Contents (Elt Ideal)), View.readAt (Elt Ideal) v (Rect.unit (s := S1x3072) ![0, n] S1x512.size h4).toLoadRect f (ix2 0 l) = v.read (Elt Ideal) f (ix2 0 ⟨n + l.val, by omega⟩) := fun v f =>
    congrArg (v.read (Elt Ideal) f) (by
      funext a; match a with
      | ⟨0, _⟩ => rfl
      | ⟨1, _⟩ => exact Fin.ext (show n + 1 * l.val = n + l.val by omega))
  have e6 : View.readAt (Elt Ideal) v6 (Rect.unit (s := S512x3072) ![0, n] S512x512.size h6).toLoadRect f6 (ix2 i l) = v6.read (Elt Ideal) f6 (ix2 i ⟨n + l.val, by omega⟩) :=
    congrArg (v6.read (Elt Ideal) f6) (by
      funext a; match a with
      | ⟨0, _⟩ => exact Fin.ext (show 0 + 1 * i.val = i.val by omega)
      | ⟨1, _⟩ => exact Fin.ext (show n + 1 * l.val = n + l.val by omega))
  unfold chunk
  simp only [e3]
  rw [er v4 f4, er v5 f5, e6]
  rfl

theorem read7 (hv8 : v8.read (Elt Ideal) f8 = G8 x) (hv : v10.read (Elt Ideal) f10 = G10 x) :
    v7.read (Elt Ideal) (v7.writes (Elt Ideal) f7 (list7 v3 f3 v4 f4 v5 f5 v6 f6 v8 f8 v10 f10)) = G7 x (v3.read (Elt Ideal) f3) (v4.read (Elt Ideal) f4) (v5.read (Elt Ideal) f5) (v6.read (Elt Ideal) f6) := by
  have hp : View.PiecesOf (G7 x (v3.read (Elt Ideal) f3) (v4.read (Elt Ideal) f4) (v5.read (Elt Ideal) f5) (v6.read (Elt Ideal) f6)) (list7 v3 f3 v4 f4 v5 f5 v6 f6 v8 f8 v10 f10) :=
    ⟨piece7 v3 f3 v4 f4 v5 f5 v6 f6 v8 f8 v10 f10 x 2560 inb_S1x512x3072_S1x512x512_0_0_2560 inb_S4608x3072_S4608x512_0_2560 inb_S1x3072_S1x512_0_2560 inb_S512x3072_S512x512_0_2560 inb_S1x512x4608_S1x512x4608_0_0_0 inb_S512x128_S512x128_0_0 hv8 hv (fun a w s ws b p => k0_pay1 (k0_pay550 a w s ws) b p) (fun a w s ws b p i l hs => pay1_apply a w s ws b p i l hs),
     piece7 v3 f3 v4 f4 v5 f5 v6 f6 v8 f8 v10 f10 x 2048 inb_S1x512x3072_S1x512x512_0_0_2048 inb_S4608x3072_S4608x512_0_2048 inb_S1x3072_S1x512_0_2048 inb_S512x3072_S512x512_0_2048 inb_S1x512x4608_S1x512x4608_0_0_0 inb_S512x128_S512x128_0_0 hv8 hv k0_pay549 (fun a w s ws b p i l hs => pay549_apply a w s ws b p i l hs),
     piece7 v3 f3 v4 f4 v5 f5 v6 f6 v8 f8 v10 f10 x 1536 inb_S1x512x3072_S1x512x512_0_0_1536 inb_S4608x3072_S4608x512_0_1536 inb_S1x3072_S1x512_0_1536 inb_S512x3072_S512x512_0_1536 inb_S1x512x4608_S1x512x4608_0_0_0 inb_S512x128_S512x128_0_0 hv8 hv k0_pay548 (fun a w s ws b p i l hs => pay548_apply a w s ws b p i l hs),
     piece7 v3 f3 v4 f4 v5 f5 v6 f6 v8 f8 v10 f10 x 1024 inb_S1x512x3072_S1x512x512_0_0_1024 inb_S4608x3072_S4608x512_0_1024 inb_S1x3072_S1x512_0_1024 inb_S512x3072_S512x512_0_1024 inb_S1x512x4608_S1x512x4608_0_0_0 inb_S512x128_S512x128_0_0 hv8 hv (fun a w s ws b p => k0_pay547 (k0_pay546 a w s ws) b p) (fun a w s ws b p i l hs => pay547_apply a w s ws b p i l hs),
     piece7 v3 f3 v4 f4 v5 f5 v6 f6 v8 f8 v10 f10 x 512 inb_S1x512x3072_S1x512x512_0_0_512 inb_S4608x3072_S4608x512_0_512 inb_S1x3072_S1x512_0_512 inb_S512x3072_S512x512_0_512 inb_S1x512x4608_S1x512x4608_0_0_0 inb_S512x128_S512x128_0_0 hv8 hv k0_pay545 (fun a w s ws b p i l hs => pay545_apply a w s ws b p i l hs),
     piece7 v3 f3 v4 f4 v5 f5 v6 f6 v8 f8 v10 f10 x 0 inb_S1x512x3072_S1x512x512_0_0_0 inb_S4608x3072_S4608x512_0_0 inb_S1x3072_S1x512_0_0 inb_S512x3072_S512x512_0_0 inb_S1x512x4608_S1x512x4608_0_0_0 inb_S512x128_S512x128_0_0 hv8 hv k0_pay544 (fun a w s ws b p i l hs => pay544_apply a w s ws b p i l hs), trivial⟩
  funext y
  refine View.read_writes_apply_of_pieces v7 f7 _ _ hp.mem y ?_
  have h0 : (y 0).val < 1 := (y 0).isLt
  have h1 : (y 1).val < 512 := (y 1).isLt
  have h2 : (y 2).val < 3072 := (y 2).isLt
  have key : ∀ (n : Nat) (h : ∀ a, (![0, 0, n] : Fin 3 → Nat) a + S1x512x512.size a ≤ S1x512x3072.size a), n ≤ (y 2).val → (y 2).val < n + 512 → y ∈ (Rect.unit (s := S1x512x3072) ![0, 0, n] S1x512x512.size h).set := by
    intro n h ha hb
    rw [Rect.mem_set_unit]
    intro a; match a with
    | ⟨0, _⟩ => exact ⟨Nat.zero_le _, show (y 0).val < 0 + 1 by omega⟩
    | ⟨1, _⟩ => exact ⟨Nat.zero_le _, show (y 1).val < 0 + 512 by omega⟩
    | ⟨2, _⟩ => exact ⟨ha, hb⟩
  by_cases c1 : (y 2).val < 512
  · exact ⟨_, .tail _ (.tail _ (.tail _ (.tail _ (.tail _ (.head _))))), key 0 inb_S1x512x3072_S1x512x512_0_0_0 (by omega) (by omega)⟩
  by_cases c2 : (y 2).val < 1024
  · exact ⟨_, .tail _ (.tail _ (.tail _ (.tail _ (.head _)))), key 512 inb_S1x512x3072_S1x512x512_0_0_512 (by omega) (by omega)⟩
  by_cases c3 : (y 2).val < 1536
  · exact ⟨_, .tail _ (.tail _ (.tail _ (.head _))), key 1024 inb_S1x512x3072_S1x512x512_0_0_1024 (by omega) (by omega)⟩
  by_cases c4 : (y 2).val < 2048
  · exact ⟨_, .tail _ (.tail _ (.head _)), key 1536 inb_S1x512x3072_S1x512x512_0_0_1536 (by omega) (by omega)⟩
  by_cases c5 : (y 2).val < 2560
  · exact ⟨_, .tail _ (.head _), key 2048 inb_S1x512x3072_S1x512x512_0_0_2048 (by omega) (by omega)⟩
  · exact ⟨_, .head _, key 2560 inb_S1x512x3072_S1x512x512_0_0_2560 (by omega) (by omega)⟩

end

end Cert.Proof.KI
end
-- ==== Proof.KernelValue.lean ====
module

public import proofs.«01_k».proof.Proof.Product

@[expose] public section

set_option maxRecDepth 16384

noncomputable section

/-! The body on whole memrefs leaves the block's codes, its scales and its product. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

theorem sound_kernel (c : Dev nD) (E : Set ℕ) (i : grid0.Coords) (arg2 : Memref sig .tc .vmem S2304x8x128 .bf16) (harg2 : arg2.IsWhole) (arg3 : Memref sig .tc .vmem S4608x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S1x512x3072 .bf16) (harg7 : arg7.IsWhole) (arg8 : Memref sig .tc .vmem S1x512x4608 .fp8e4m3) (harg8 : arg8.IsWhole) (arg9 : Memref sig .tc .vmem S1x1x512 .f32) (harg9 : arg9.IsWhole) (arg10 : Memref sig .tc .vmem S512x128 .f32) (harg10 : arg10.IsWhole)
    (x2 : Vec Ideal S2304x8x128 .bf16) (x3 : Vec Ideal S4608x3072 .fp8e4m3) (x4 x5 : Vec Ideal S1x3072 .f32) (x6 : Vec Ideal S512x3072 .bf16) (hg : Good x2) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (∃ f, pt (F := Ideal) c arg10 f)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (G7 x2 x3 x4 x5 x6) ∗ owns (c : Thread nD τ) arg8 fullShare (G8 x2) ∗ owns (c : Thread nD τ) arg9 fullShare (G9 x2)
            ∗ (∃ f, pt (F := Ideal) c arg10 f)) -∗ K ⟨⟩))
      ⊢ wp frame (wpE (defs₀ (F := Ideal)) Variants.none c none) E (cc0__kernel i arg2 harg2 arg3 harg3 arg4 harg4 arg5 harg5 arg6 harg6 arg7 harg7 arg8 harg8 arg9 harg9 arg10 harg10) K := by
  unfold owns
  simp only [harg2.set_eq_univ, harg3.set_eq_univ, harg4.set_eq_univ, harg5.set_eq_univ, harg6.set_eq_univ, harg7.set_eq_univ, harg8.set_eq_univ, harg9.set_eq_univ]
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%f10, H10⟩, Hk⟩
  subst h2 h3 h4 h5 h6
  have z8 : Done8 (rd c arg2 f2) 0 (View.read (Elt Ideal) arg8.view f8) := fun y hy => absurd hy (by omega)
  have z10 : Done10 (rd c arg2 f2) 0 (View.read (Elt Ideal) arg10.view f10) := fun y hy => absurd hy (by omega)
  sl_unfold [cc0__kernel]
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    exact read7 arg3.view f3 arg4.view f4 arg5.view f5 arg6.view f6 arg7.view f7 arg8.view _ arg10.view _ _ (done8_all _ (by assumption)) (done10_all _ (by assumption))
  isplitl [H8]
  · iexists _; isplitr; swap; · iexact H8
    ipureintro
    exact done8_all _ (by assumption)
  isplitl [H9]
  · iexists _; isplitr; swap; · iexact H9
    ipureintro
    exact read9 arg9.view f9 arg10.view _ _ (done10_all _ (by assumption))
  iexists _; iexact H10

end Cert.Proof.KI
end
-- ==== Proof.KernelLaunch.lean ====
module

public import proofs.«01_k».proof.Proof.KernelValue
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

/-! The pipeline with the contents of every output block named. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data: the inputs' buffers keep their blocks, the outputs' hold the block's product, codes and scales. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => G7 (iblk m c 0 t) (iblk m c 1 t) (iblk m c 2 t) (iblk m c 3 t) (iblk m c 4 t)
    | ⟨6, _⟩ => G8 (iblk m c 0 t)
    | ⟨7, _⟩ => G9 (iblk m c 0 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = G7 (iblk m c 0 t) (iblk m c 1 t) (iblk m c 2 t) (iblk m c 3 t) (iblk m c 4 t) := by dsimp only [dats]
theorem after0_6 (c : Dev nD) (t : Fin cfg0.N) : (dats m 0 c).after 6 t = G8 (iblk m c 0 t) := by dsimp only [dats]
theorem after0_7 (c : Dev nD) (t : Fin cfg0.N) : (dats m 0 c).after 7 t = G9 (iblk m c 0 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem PhiA_eq (c : Dev nD) : (Pipeline.ΦA spec0 c : sProp 𝕄)
    = iprop((∃ f : Buf (Elt Ideal) ((c : Thread nD τ).loc cc0_scratch0), ((c : Thread nD τ).loc cc0_scratch0) ↦{fullShare} f) ∗ ∃ r, prngReg c r) := by
  unfold Pipeline.ΦA; rw [scopedRest0_eq]

/-- The body at any point. -/
theorem sound_body (hG : ∀ c t, Good (iblk m c 0 t)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ (iblk m c 0 t) (iblk m c 1 t) (iblk m c 2 t) (iblk m c 3 t) (iblk m c 4 t) (hG c t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := Ideal) .tc cfg0.body (cfg0.bodyArgs t (cfg0.slots t)) = bodyAt0 t := by
  unfold defs₀; rw [Defs.onTc_tc]

theorem body_obligation (hG : ∀ c t, Good (iblk m c 0 t)) (c : Dev nD) : BodyObligation (dats m 0 c) (defs₀ (F := Ideal)) Variants.none () Set.univ := fun t => by
  rw [bigSep_W0, bigSep_W0, defs₀_row]
  exact triple_restated (sound_body m hG c t) rfl .rfl fun _ => .rfl

set_option backward.isDefEq.respectTransparency.types false in
set_option maxHeartbeats 800000 in
/-- The launch: every array of the pipeline ends at what its blocks leave in it, the other buffers as the region found them. -/
theorem run_main (hG : ∀ c t, Good (iblk m c 0 t)) : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hG c).loose) (hshare := fun c => (dats m 0 c).share_full fun _ => rfl)
    (howed := fun _ _ => rfl) (V := V m) (hmain := hmain m Variants.none) (hA := A_eq m) (hΦ := fun _ _ => rfl)

end Cert.Proof.KI

end
-- ==== Proof.Spec.lean ====
module

public import proofs.«01_k».proof.Proof.Tokens

@[expose] public section

noncomputable section

/-! The three results as functions of the arguments, shared by the kernel and the reference. -/

namespace Cert.Proof.Spec

open Idealize.ShloMosaic Cert.Proof.KI Cert.Proof.Scal

/-- Token `n` of batch `b`: 8 channels of 576 samples. -/
def token (A : Fin 4 → Fin 8 → Fin 4718592 → EReal) (b : Fin 4) (n : Fin 8192) : Fin 8 → Fin 576 → EReal :=
  fun ch p => A b ch ⟨576 * n.val + p.val, by omega⟩

/-- The greatest magnitude of a token, over 448. -/
def quot (A : Fin 4 → Fin 8 → Fin 4718592 → EReal) (b : Fin 4) (n : Fin 8192) : EReal := amax (token A b n) * c448

/-- The codes of a token. -/
def code (A : Fin 4 → Fin 8 → Fin 4718592 → EReal) (b : Fin 4) (n : Fin 8192) (q : Fin 4608) : EReal :=
  clip (token A b n ⟨q.val / 576, by omega⟩ ⟨q.val % 576, by omega⟩ * kInv (quot A b n))

/-- The output at a token and a column. -/
def out (A : Fin 4 → Fin 8 → Fin 4718592 → EReal) (w : Fin 4608 → Fin 3072 → EReal) (ws bb : Fin 3072 → EReal) (p : Fin 8192 → Fin 3072 → EReal)
    (b : Fin 4) (n : Fin 8192) (o : Fin 3072) : EReal :=
  (∑ q : Fin 4608, code A b n q * w q o) * kScale (quot A b n) * ws o + bb o + p n o

end Cert.Proof.Spec
end
-- ==== Proof.KernelArrays.lean ====
module

public import proofs.«01_k».proof.Proof.KernelLaunch
public import proofs.«01_k».proof.Proof.Spec
public import Idealize.ShloMosaic.Lib.Pointwise
public import Idealize.ShloMosaic.Lib.Claim
public import Idealize.ShloMosaic.Lib.Pipeline.Value

@[expose] public section

set_option maxRecDepth 16384

noncomputable section

/-! The kernel's three result arrays after the run, as functions of its arguments. -/

namespace Cert.Proof.KI

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! The arguments by coordinates. -/

def argX (c : Dev nD) (b : Fin 4) (ch : Fin 8) (k : Fin 4718592) : EReal := (m ((c.tc : Thread nD τ).loc main_arg0) : Vec Ideal S4x8x4718592 .bf16) (ix3 b ch k)
def argW (c : Dev nD) (q : Fin 4608) (o : Fin 3072) : EReal := (m ((c.tc : Thread nD τ).loc main_arg1) : Vec Ideal S4608x3072 .fp8e4m3) (ix2 q o)
def argS (c : Dev nD) (o : Fin 3072) : EReal := (m ((c.tc : Thread nD τ).loc main_arg2) : Vec Ideal S3072 .f32) (ix1 o)
def argB (c : Dev nD) (o : Fin 3072) : EReal := (m ((c.tc : Thread nD τ).loc main_arg3) : Vec Ideal S3072 .f32) (ix1 o)
def argP (c : Dev nD) (n : Fin 8192) (o : Fin 3072) : EReal := (m ((c.tc : Thread nD τ).loc main_arg4) : Vec Ideal S8192x3072 .bf16) (ix2 n o)

/-! What the region finds in the staged arrays. -/

theorem V_v2 (c : Dev nD) (T : Fin 147456) (ch : Fin 8) (l : Fin 128) :
    (V m c main_v2 : Vec Ideal S147456x8x128 .bf16) (ix3 T ch l) = argX m c ⟨T.val / 36864, by omega⟩ ch ⟨T.val % 36864 * 128 + l.val, by omega⟩ := by
  entry_read
  pointwise []
  rfl

theorem V_v3 (c : Dev nD) (o : Fin 3072) : (V m c main_v3 : Vec Ideal S1x3072 .f32) (ix2 0 o) = argS m c o := by
  entry_read
  pointwise []
  rfl

theorem V_v4 (c : Dev nD) (o : Fin 3072) : (V m c main_v4 : Vec Ideal S1x3072 .f32) (ix2 0 o) = argB m c o := by
  entry_read
  pointwise []
  rfl

/-! Where each window's block lies. -/

theorem idx0 : ∀ t : Fin grid0.N, win0_0.index t = ![t.val % 4 * 16 + t.val / 4, 0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val / 4, 0] := by decide +kernel
theorem idx5 : ∀ t : Fin grid0.N, win0_5.index t = ![t.val % 4, t.val / 4, 0] := by decide +kernel
theorem idx6 : ∀ t : Fin grid0.N, win0_6.index t = ![t.val % 4, t.val / 4, 0] := by decide +kernel
theorem idx7 : ∀ t : Fin grid0.N, win0_7.index t = ![t.val % 4, 0, t.val / 4] := by decide +kernel

theorem tlt (t : Fin cfg0.N) : t.val < 64 := lt_of_lt_of_eq t.isLt (by decide +kernel : grid0.N = 64)

/-- The batch of a point, and the token of a row of its block. -/
def bat (t : Fin cfg0.N) : Fin 4 := ⟨t.val % 4, by omega⟩
def rowOf (t : Fin cfg0.N) (r : Fin 512) : Fin 8192 := ⟨512 * (t.val / 4) + r.val, by have := tlt t; omega⟩

/-! The windows' blocks by coordinates. -/

theorem iblk0 (c : Dev nD) (t : Fin cfg0.N) (a : Fin 2304) (ch : Fin 8) (l : Fin 128) :
    (iblk m c 0 t : Vec Ideal S2304x8x128 .bf16) (ix3 a ch l) = V m c main_v2 (ix3 ⟨(t.val % 4 * 16 + t.val / 4) * 2304 + a.val, by have := tlt t; omega⟩ ch l) := by
  show V m c main_v2 _ = _
  refine congrArg (V m c main_v2) (funext fun x => Fin.ext ?_)
  match x with
  | ⟨0, _⟩ => show win0_0.index t 0 * 2304 + 1 * a.val = _; rw [idx0]; show (t.val % 4 * 16 + t.val / 4) * 2304 + 1 * a.val = (t.val % 4 * 16 + t.val / 4) * 2304 + a.val; omega
  | ⟨1, _⟩ => show win0_0.index t 1 * 8 + 1 * ch.val = _; rw [idx0]; show 0 * 8 + 1 * ch.val = ch.val; omega
  | ⟨2, _⟩ => show win0_0.index t 2 * 128 + 1 * l.val = _; rw [idx0]; show 0 * 128 + 1 * l.val = l.val; omega

theorem iblk1 (c : Dev nD) (t : Fin cfg0.N) (q : Fin 4608) (o : Fin 3072) : (iblk m c 1 t : Vec Ideal S4608x3072 .fp8e4m3) (ix2 q o) = argW m c q o := by
  show V m c main_arg1 _ = _
  rw [V_main_arg1]
  refine congrArg (m ((c.tc : Thread nD τ).loc main_arg1)) (funext fun x => Fin.ext ?_)
  match x with
  | ⟨0, _⟩ => show win0_1.index t 0 * 4608 + 1 * q.val = _; rw [idx1]; show 0 * 4608 + 1 * q.val = q.val; omega
  | ⟨1, _⟩ => show win0_1.index t 1 * 3072 + 1 * o.val = _; rw [idx1]; show 0 * 3072 + 1 * o.val = o.val; omega

theorem iblk2 (c : Dev nD) (t : Fin cfg0.N) (o : Fin 3072) : (iblk m c 2 t : Vec Ideal S1x3072 .f32) (ix2 0 o) = argS m c o := by
  rw [← V_v3]
  show V m c main_v3 _ = _
  refine congrArg (V m c main_v3) (funext fun x => Fin.ext ?_)
  match x with
  | ⟨0, _⟩ => show win0_2.index t 0 * 1 + 1 * 0 = _; rw [idx2]; rfl
  | ⟨1, _⟩ => show win0_2.index t 1 * 3072 + 1 * o.val = _; rw [idx2]; show 0 * 3072 + 1 * o.val = o.val; omega

theorem iblk3 (c : Dev nD) (t : Fin cfg0.N) (o : Fin 3072) : (iblk m c 3 t : Vec Ideal S1x3072 .f32) (ix2 0 o) = argB m c o := by
  rw [← V_v4]
  show V m c main_v4 _ = _
  refine congrArg (V m c main_v4) (funext fun x => Fin.ext ?_)
  match x with
  | ⟨0, _⟩ => show win0_3.index t 0 * 1 + 1 * 0 = _; rw [idx3]; rfl
  | ⟨1, _⟩ => show win0_3.index t 1 * 3072 + 1 * o.val = _; rw [idx3]; show 0 * 3072 + 1 * o.val = o.val; omega

theorem iblk4 (c : Dev nD) (t : Fin cfg0.N) (r : Fin 512) (o : Fin 3072) : (iblk m c 4 t : Vec Ideal S512x3072 .bf16) (ix2 r o) = argP m c (rowOf t r) o := by
  show V m c main_arg4 _ = _
  rw [V_main_arg4]
  refine congrArg (m ((c.tc : Thread nD τ).loc main_arg4)) (funext fun x => Fin.ext ?_)
  match x with
  | ⟨0, _⟩ => show win0_4.index t 0 * 512 + 1 * r.val = _; rw [idx4]; show t.val / 4 * 512 + 1 * r.val = 512 * (t.val / 4) + r.val; omega
  | ⟨1, _⟩ => show win0_4.index t 1 * 3072 + 1 * o.val = _; rw [idx4]; show 0 * 3072 + 1 * o.val = o.val; omega

/-- A row of a point's block is its token. -/
theorem tok_eq (c : Dev nD) (t : Fin cfg0.N) (r : Fin 512) : tok (iblk m c 0 t) r = Spec.token (argX m c) (bat t) (rowOf t r) := by
  funext ch p
  unfold tok
  rw [iblk0, V_v2]
  unfold Spec.token
  have ht := tlt t
  have hr := r.isLt
  have hp := p.isLt
  have e1 : ((t.val % 4 * 16 + t.val / 4) * 2304 + (9 * (r.val / 2) + (576 * (r.val % 2) + p.val) / 128)) / 36864 = t.val % 4 := by omega
  have e2 : ((t.val % 4 * 16 + t.val / 4) * 2304 + (9 * (r.val / 2) + (576 * (r.val % 2) + p.val) / 128)) % 36864 = t.val / 4 * 2304 + (9 * (r.val / 2) + (576 * (r.val % 2) + p.val) / 128) := by omega
  have e3 : (t.val / 4 * 2304 + (9 * (r.val / 2) + (576 * (r.val % 2) + p.val) / 128)) * 128 + (576 * (r.val % 2) + p.val) % 128 = 576 * (512 * (t.val / 4) + r.val) + p.val := by omega
  congr 1
  · exact Fin.ext e1
  · exact Fin.ext (by
      show ((t.val % 4 * 16 + t.val / 4) * 2304 + (9 * (r.val / 2) + (576 * (r.val % 2) + p.val) / 128)) % 36864 * 128 + (576 * (r.val % 2) + p.val) % 128 = 576 * (512 * (t.val / 4) + r.val) + p.val
      rw [e2, e3])

theorem quo_eq (c : Dev nD) (t : Fin cfg0.N) (r : Fin 512) : quo (iblk m c 0 t) r = Spec.quot (argX m c) (bat t) (rowOf t r) := by
  unfold quo Spec.quot; rw [tok_eq]

theorem codes_eq (c : Dev nD) (t : Fin cfg0.N) (r : Fin 512) (q : Fin 4608) : codes (iblk m c 0 t) r q = Spec.code (argX m c) (bat t) (rowOf t r) q := by
  unfold codes Spec.code; rw [tok_eq, quo_eq]

/-! The result arrays. -/

def res5 (c : Dev nD) : Vec Ideal S4x8192x3072 .bf16 := fun j => Spec.out (argX m c) (argW m c) (argS m c) (argB m c) (argP m c) (j 0) (j 1) (j 2)
def res6 (c : Dev nD) : Vec Ideal S4x8192x4608 .fp8e4m3 := fun j => Spec.code (argX m c) (j 0) (j 1) (j 2)
def res7 (c : Dev nD) : Vec Ideal S4x1x8192 .f32 := fun j => Scal.kScale (Spec.quot (argX m c) (j 0) (j 2))

theorem blk5 (c : Dev nD) (t : Fin cfg0.N) (G : Vec Ideal S4x8192x3072 .bf16) (r : Fin 512) (o : Fin 3072) :
    ((cfg0.win 5).blk t).view.read (Elt Ideal) G (ix3 0 r o) = G (ix3 (bat t) (rowOf t r) o) := by
  refine congrArg G (funext fun x => Fin.ext ?_)
  match x with
  | ⟨0, _⟩ => show win0_5.index t 0 * 1 + 1 * 0 = _; rw [idx5]; show t.val % 4 * 1 + 1 * 0 = t.val % 4; omega
  | ⟨1, _⟩ => show win0_5.index t 1 * 512 + 1 * r.val = _; rw [idx5]; show t.val / 4 * 512 + 1 * r.val = 512 * (t.val / 4) + r.val; omega
  | ⟨2, _⟩ => show win0_5.index t 2 * 3072 + 1 * o.val = _; rw [idx5]; show 0 * 3072 + 1 * o.val = o.val; omega

theorem blk6 (c : Dev nD) (t : Fin cfg0.N) (G : Vec Ideal S4x8192x4608 .fp8e4m3) (r : Fin 512) (o : Fin 4608) :
    ((cfg0.win 6).blk t).view.read (Elt Ideal) G (ix3 0 r o) = G (ix3 (bat t) (rowOf t r) o) := by
  refine congrArg G (funext fun x => Fin.ext ?_)
  match x with
  | ⟨0, _⟩ => show win0_6.index t 0 * 1 + 1 * 0 = _; rw [idx6]; show t.val % 4 * 1 + 1 * 0 = t.val % 4; omega
  | ⟨1, _⟩ => show win0_6.index t 1 * 512 + 1 * r.val = _; rw [idx6]; show t.val / 4 * 512 + 1 * r.val = 512 * (t.val / 4) + r.val; omega
  | ⟨2, _⟩ => show win0_6.index t 2 * 4608 + 1 * o.val = _; rw [idx6]; show 0 * 4608 + 1 * o.val = o.val; omega

theorem blk7 (c : Dev nD) (t : Fin cfg0.N) (G : Vec Ideal S4x1x8192 .f32) (r : Fin 512) :
    ((cfg0.win 7).blk t).view.read (Elt Ideal) G (ix3 0 0 r) = G (ix3 (bat t) 0 (rowOf t r)) := by
  refine congrArg G (funext fun x => Fin.ext ?_)
  match x with
  | ⟨0, _⟩ => show win0_7.index t 0 * 1 + 1 * 0 = _; rw [idx7]; show t.val % 4 * 1 + 1 * 0 = t.val % 4; omega
  | ⟨1, _⟩ => show win0_7.index t 1 * 1 + 1 * 0 = _; rw [idx7]; rfl
  | ⟨2, _⟩ => show win0_7.index t 2 * 512 + 1 * r.val = _; rw [idx7]; show t.val / 4 * 512 + 1 * r.val = 512 * (t.val / 4) + r.val; omega

theorem flushed5 (c : Dev nD) (t : Fin cfg0.N) (hf : (cfg0.win 5).flush t = true) :
    (dats m 0 c).flushed 5 t = ((cfg0.win 5).blk t).view.read (Elt Ideal) (res5 m c) := by
  show (cfg0.win 5).cut (grid0.coords t) ((dats m 0 c).after 5 t) = _
  rw [after0_5]
  funext (y : S1x512x3072.Idx)
  obtain ⟨r, o, rfl⟩ : ∃ (r : Fin 512) (o : Fin 3072), y = ix3 0 r o := ⟨y 1, y 2, by
    funext a; match a with
    | ⟨0, _⟩ => exact Subsingleton.elim (α := Fin 1) _ _
    | ⟨1, _⟩ => rfl
    | ⟨2, _⟩ => rfl⟩
  refine Eq.trans ?_ (blk5 c t (res5 m c) r o).symm
  show G7 (iblk m c 0 t) (iblk m c 1 t) (iblk m c 2 t) (iblk m c 3 t) (iblk m c 4 t) (ix3 0 r o) = Spec.out (argX m c) (argW m c) (argS m c) (argB m c) (argP m c) (bat t) (rowOf t r) o
  show (∑ q : Fin 4608, codes (iblk m c 0 t) r q * (iblk m c 1 t : Vec Ideal S4608x3072 .fp8e4m3) (ix2 q o)) * Scal.kScale (quo (iblk m c 0 t) r) * (iblk m c 2 t : Vec Ideal S1x3072 .f32) (ix2 0 o)
      + (iblk m c 3 t : Vec Ideal S1x3072 .f32) (ix2 0 o) + (iblk m c 4 t : Vec Ideal S512x3072 .bf16) (ix2 r o) = _
  rw [quo_eq, iblk2, iblk3, iblk4]
  simp only [codes_eq, iblk1]
  rfl

theorem flushed6 (c : Dev nD) (t : Fin cfg0.N) (hf : (cfg0.win 6).flush t = true) :
    (dats m 0 c).flushed 6 t = ((cfg0.win 6).blk t).view.read (Elt Ideal) (res6 m c) := by
  show (cfg0.win 6).cut (grid0.coords t) ((dats m 0 c).after 6 t) = _
  rw [after0_6]
  funext (y : S1x512x4608.Idx)
  obtain ⟨r, o, rfl⟩ : ∃ (r : Fin 512) (o : Fin 4608), y = ix3 0 r o := ⟨y 1, y 2, by
    funext a; match a with
    | ⟨0, _⟩ => exact Subsingleton.elim (α := Fin 1) _ _
    | ⟨1, _⟩ => rfl
    | ⟨2, _⟩ => rfl⟩
  refine Eq.trans ?_ (blk6 c t (res6 m c) r o).symm
  exact codes_eq m c t r o

theorem flushed7 (c : Dev nD) (t : Fin cfg0.N) (hf : (cfg0.win 7).flush t = true) :
    (dats m 0 c).flushed 7 t = ((cfg0.win 7).blk t).view.read (Elt Ideal) (res7 m c) := by
  show (cfg0.win 7).cut (grid0.coords t) ((dats m 0 c).after 7 t) = _
  rw [after0_7]
  funext (y : S1x1x512.Idx)
  obtain ⟨r, rfl⟩ : ∃ (r : Fin 512), y = ix3 0 0 r := ⟨y 2, by
    funext a; match a with
    | ⟨0, _⟩ => exact Subsingleton.elim (α := Fin 1) _ _
    | ⟨1, _⟩ => exact Subsingleton.elim (α := Fin 1) _ _
    | ⟨2, _⟩ => rfl⟩
  refine Eq.trans ?_ (blk7 c t (res7 m c) r).symm
  exact congrArg Scal.kScale (quo_eq m c t r)

/-- The point that covers a batch and a token. -/
def ptOf (b : Fin 4) (n : Fin 8192) : Fin cfg0.N := ⟨4 * (n.val / 512) + b.val, lt_of_lt_of_eq (b := 64) (by omega) (by decide +kernel : 64 = grid0.N)⟩

theorem ptOf_mod (b : Fin 4) (n : Fin 8192) : (ptOf b n).val % 4 = b.val := by show (4 * (n.val / 512) + b.val) % 4 = b.val; omega
theorem ptOf_div (b : Fin 4) (n : Fin 8192) : (ptOf b n).val / 4 = n.val / 512 := by show (4 * (n.val / 512) + b.val) / 4 = n.val / 512; omega

theorem final5 (c : Dev nD) : (dats m 0 c).arrAt 5 cfg0.N = res5 m c :=
  (dats m 0 c).arrAt_eq_of_cover 5 (res5 m c) (flushed5 m c) fun (i : S4x8192x3072.Idx) =>
    ⟨ptOf (i 0) (i 1), flush0_5 _, by
      show i ∈ ((View.whole main_v5_0).slice (win0_5.rect (ptOf (i 0) (i 1)))).set
      rw [View.set_slice_whole, Rect.mem_set_unit]
      have h0 : (i 0).val < 4 := (i 0).isLt
      have h1 : (i 1).val < 8192 := (i 1).isLt
      have h2 : (i 2).val < 3072 := (i 2).isLt
      have hm := ptOf_mod (i 0) (i 1)
      have hd := ptOf_div (i 0) (i 1)
      intro a
      match a with
      | ⟨0, _⟩ =>
        show win0_5.index (ptOf (i 0) (i 1)) 0 * 1 ≤ (i 0).val ∧ (i 0).val < win0_5.index (ptOf (i 0) (i 1)) 0 * 1 + 1
        rw [idx5]
        show ((ptOf (i 0) (i 1)).val % 4) * 1 ≤ (i 0).val ∧ (i 0).val < ((ptOf (i 0) (i 1)).val % 4) * 1 + 1
        omega
      | ⟨1, _⟩ =>
        show win0_5.index (ptOf (i 0) (i 1)) 1 * 512 ≤ (i 1).val ∧ (i 1).val < win0_5.index (ptOf (i 0) (i 1)) 1 * 512 + 512
        rw [idx5]
        show ((ptOf (i 0) (i 1)).val / 4) * 512 ≤ (i 1).val ∧ (i 1).val < ((ptOf (i 0) (i 1)).val / 4) * 512 + 512
        omega
      | ⟨2, _⟩ =>
        show win0_5.index (ptOf (i 0) (i 1)) 2 * 3072 ≤ (i 2).val ∧ (i 2).val < win0_5.index (ptOf (i 0) (i 1)) 2 * 3072 + 3072
        rw [idx5]
        show 0 * 3072 ≤ (i 2).val ∧ (i 2).val < 0 * 3072 + 3072
        omega⟩

theorem final6 (c : Dev nD) : (dats m 0 c).arrAt 6 cfg0.N = res6 m c :=
  (dats m 0 c).arrAt_eq_of_cover 6 (res6 m c) (flushed6 m c) fun (i : S4x8192x4608.Idx) =>
    ⟨ptOf (i 0) (i 1), flush0_6 _, by
      show i ∈ ((View.whole main_v5_1).slice (win0_6.rect (ptOf (i 0) (i 1)))).set
      rw [View.set_slice_whole, Rect.mem_set_unit]
      have h0 : (i 0).val < 4 := (i 0).isLt
      have h1 : (i 1).val < 8192 := (i 1).isLt
      have h2 : (i 2).val < 4608 := (i 2).isLt
      have hm := ptOf_mod (i 0) (i 1)
      have hd := ptOf_div (i 0) (i 1)
      intro a
      match a with
      | ⟨0, _⟩ =>
        show win0_6.index (ptOf (i 0) (i 1)) 0 * 1 ≤ (i 0).val ∧ (i 0).val < win0_6.index (ptOf (i 0) (i 1)) 0 * 1 + 1
        rw [idx6]
        show ((ptOf (i 0) (i 1)).val % 4) * 1 ≤ (i 0).val ∧ (i 0).val < ((ptOf (i 0) (i 1)).val % 4) * 1 + 1
        omega
      | ⟨1, _⟩ =>
        show win0_6.index (ptOf (i 0) (i 1)) 1 * 512 ≤ (i 1).val ∧ (i 1).val < win0_6.index (ptOf (i 0) (i 1)) 1 * 512 + 512
        rw [idx6]
        show ((ptOf (i 0) (i 1)).val / 4) * 512 ≤ (i 1).val ∧ (i 1).val < ((ptOf (i 0) (i 1)).val / 4) * 512 + 512
        omega
      | ⟨2, _⟩ =>
        show win0_6.index (ptOf (i 0) (i 1)) 2 * 4608 ≤ (i 2).val ∧ (i 2).val < win0_6.index (ptOf (i 0) (i 1)) 2 * 4608 + 4608
        rw [idx6]
        show 0 * 4608 ≤ (i 2).val ∧ (i 2).val < 0 * 4608 + 4608
        omega⟩

theorem final7 (c : Dev nD) : (dats m 0 c).arrAt 7 cfg0.N = res7 m c :=
  (dats m 0 c).arrAt_eq_of_cover 7 (res7 m c) (flushed7 m c) fun (i : S4x1x8192.Idx) =>
    ⟨ptOf (i 0) (i 2), flush0_7 _, by
      show i ∈ ((View.whole main_v5_2).slice (win0_7.rect (ptOf (i 0) (i 2)))).set
      rw [View.set_slice_whole, Rect.mem_set_unit]
      have h0 : (i 0).val < 4 := (i 0).isLt
      have h1 : (i 1).val < 1 := (i 1).isLt
      have h2 : (i 2).val < 8192 := (i 2).isLt
      have hm := ptOf_mod (i 0) (i 2)
      have hd := ptOf_div (i 0) (i 2)
      intro a
      match a with
      | ⟨0, _⟩ =>
        show win0_7.index (ptOf (i 0) (i 2)) 0 * 1 ≤ (i 0).val ∧ (i 0).val < win0_7.index (ptOf (i 0) (i 2)) 0 * 1 + 1
        rw [idx7]
        show ((ptOf (i 0) (i 2)).val % 4) * 1 ≤ (i 0).val ∧ (i 0).val < ((ptOf (i 0) (i 2)).val % 4) * 1 + 1
        omega
      | ⟨1, _⟩ =>
        show win0_7.index (ptOf (i 0) (i 2)) 1 * 1 ≤ (i 1).val ∧ (i 1).val < win0_7.index (ptOf (i 0) (i 2)) 1 * 1 + 1
        rw [idx7]
        show 0 * 1 ≤ (i 1).val ∧ (i 1).val < 0 * 1 + 1
        omega
      | ⟨2, _⟩ =>
        show win0_7.index (ptOf (i 0) (i 2)) 2 * 512 ≤ (i 2).val ∧ (i 2).val < win0_7.index (ptOf (i 0) (i 2)) 2 * 512 + 512
        rw [idx7]
        show ((ptOf (i 0) (i 2)).val / 4) * 512 ≤ (i 2).val ∧ (i 2).val < ((ptOf (i 0) (i 2)).val / 4) * 512 + 512
        omega⟩

/-- The run, read: the three results, and the arguments as launched. -/
theorem run (hG : ∀ c t, Good (iblk m c 0 t)) : θ_run defs (onTc (τ := τ) (main (F := Ideal))) ⟨m, fun _ => 0, ρ⟩ fun r => ∀ c : Dev nD,
      r.2.mem ((c.tc : Thread nD τ).loc main_v5_0) = res5 m c
      ∧ r.2.mem ((c.tc : Thread nD τ).loc main_v5_1) = res6 m c
      ∧ r.2.mem ((c.tc : Thread nD τ).loc main_v5_2) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final5 m c), ((h.1 c).1 6).trans (final6 m c), ((h.1 c).1 7).trans (final7 m c),
      ((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c)))⟩) (run_main m ρ hG)

end Cert.Proof.KI
end
-- ==== Proof.ReferenceArrays.lean ====
module

public import proofs.«01_k».proof.Proof.Gen.ReferenceIdeal.Frame
public import proofs.«01_k».proof.Proof.Spec
public import Idealize.ShloMosaic.Lib.Pointwise
public import Idealize.ShloMosaic.Lib.Pipeline.Value
public import Idealize.ShloMosaic.Lib.StableHlo.ReadAt

@[expose] public section

set_option maxRecDepth 16384

noncomputable section
namespace Cert.Proof.RI

open Cert.ReferenceIdeal Cert.ReferenceIdeal.Gen
open Idealize.ShloMosaic Idealize.ShloMosaic.TcCoe

open Cert.Proof.Scal Cert.Proof.KI

/-! What the reference computes: its host line, one segment at a time over any contents before it, then the arrays its
    product is called on. -/

/-- An element of an array of numbers. -/
abbrev rd {s : Shape} (x : s.Idx → EReal) (i : s.Idx) : EReal := x i

section Line
variable (W : Valuation τ sig (Elt Ideal))

/-! ## The tokens and their magnitudes -/

theorem sa_v1 (b : Fin 4) (ch : Fin 8) (n : Fin 8192) (p : Fin 576) :
    rd (StableHlo.after (List.take 3 hostOps0) W (Proc.tc.devRef main_v1) : Vec Ideal S4x8x8192x576 .bf16) (ix4 b ch n p) =
      ab (rd (W (Proc.tc.devRef main_arg0) : Vec Ideal S4x8x4718592 .bf16) (ix3 b ch ⟨n.val * 576 + p.val, by omega⟩)) := by
  simp only [List.take_succ_cons, List.take_zero]
  unfold rd
  after_reads_at
  rfl

theorem sa_v0 (b : Fin 4) (ch : Fin 8) (n : Fin 8192) (p : Fin 576) :
    rd (StableHlo.after (List.take 3 hostOps0) W (Proc.tc.devRef main_v0) : Vec Ideal S4x8x8192x576 .bf16) (ix4 b ch n p) =
      rd (W (Proc.tc.devRef main_arg0) : Vec Ideal S4x8x4718592 .bf16) (ix3 b ch ⟨n.val * 576 + p.val, by omega⟩) := by
  simp only [List.take_succ_cons, List.take_zero]
  unfold rd
  after_reads_at

theorem sa_cst : rd (StableHlo.after (List.take 3 hostOps0) W (Proc.tc.devRef main_cst) : Vec Ideal S_ .bf16) ix0 = Ideal.ofBits .bf16 0xFF80#16 := by
  simp only [List.take_succ_cons, List.take_zero]
  unfold rd
  after_reads_at

theorem sb_v2 : (StableHlo.after (List.take 1 (List.drop 3 hostOps0)) W (Proc.tc.devRef main_v2) : Vec Ideal S4x8192 .bf16) =
    Host.reduce (FloatOps.maximumf (F := Ideal) (φ := .bf16)) (W (Proc.tc.devRef main_v1) : Vec Ideal S4x8x8192x576 .bf16)
      (W (Proc.tc.devRef main_cst) : Vec Ideal S_ .bf16) reducesTo_S4x8x8192x576_S4x8192_d1_3 h_S_ := by
  simp only [List.drop_succ_cons, List.drop_zero, List.take_succ_cons, List.take_zero]
  after_reads_simp

theorem sb_v0 : StableHlo.after (List.take 1 (List.drop 3 hostOps0)) W (Proc.tc.devRef main_v0) = W (Proc.tc.devRef main_v0) := by
  simp only [List.drop_succ_cons, List.drop_zero, List.take_succ_cons, List.take_zero]
  after_reads_simp

/-- A source index of the first maximum falls to `(b, n)` when its batch and token are those. -/
theorem drop_iff (i : S4x8x8192x576.Idx) (b : Fin 4) (n : Fin 8192) :
    reducesTo_S4x8x8192x576_S4x8192_d1_3.drop i = ix2 b n ↔ i 0 = b ∧ i 2 = n := by
  have h0 : (reducesTo_S4x8x8192x576_S4x8192_d1_3.drop i 0 : Nat) = i 0 := Shape.ReducesTo.drop_apply_val _ i 0
  have h1 : (reducesTo_S4x8x8192x576_S4x8192_d1_3.drop i 1 : Nat) = i 2 := Shape.ReducesTo.drop_apply_val _ i 1
  constructor
  · intro h
    rw [h] at h0 h1
    exact ⟨Fin.ext h0.symm, Fin.ext h1.symm⟩
  · rintro ⟨rfl, rfl⟩
    funext k
    match k with
    | 0 => exact Fin.ext h0
    | 1 => exact Fin.ext h1

theorem red_le (x : Vec Ideal S4x8x8192x576 .bf16) (v : Vec Ideal S_ .bf16) (b : Fin 4) (n : Fin 8192) (M : EReal) :
    rd (Host.reduce (FloatOps.maximumf (F := Ideal) (φ := .bf16)) x v reducesTo_S4x8x8192x576_S4x8192_d1_3 h_S_) (ix2 b n) ≤ M ↔
      rd v ix0 ≤ M ∧ ∀ (ch : Fin 8) (p : Fin 576), rd x (ix4 b ch n p) ≤ M := by
  have e0 : Shape.Idx.first h_S_ = ix0 := funext fun k => k.elim0
  unfold rd
  pointwise
  rw [e0]
  rw [Finset.fold_max_le]
  refine and_congr Iff.rfl ⟨fun h ch p => h _ ?_, fun h i hi => ?_⟩
  · rw [Finset.mem_filter, drop_iff]
    exact ⟨Finset.mem_univ _, rfl, rfl⟩
  · rw [Finset.mem_filter, drop_iff] at hi
    obtain ⟨-, rfl, rfl⟩ := hi
    have e : i = ix4 (i 0) (i 1) (i 2) (i 3) := by
      funext k
      match k with
      | 0 => rfl
      | 1 => rfl
      | 2 => rfl
      | 3 => rfl
    rw [e]
    exact h (i 1) (i 3)

theorem bot16 : (Ideal.ofBits .bf16 0xFF80#16 : EReal) = ⊥ := by
  simp [Ideal.ofBits, Ideal.ieee]

/-! ## The rest of the first segment -/

theorem sc_v5 (b : Fin 4) (n : Fin 8192) : rd (StableHlo.after (List.drop 4 hostOps0) W (Proc.tc.devRef main_v5) : Vec Ideal S4x8192 .f32) (ix2 b n) =
    (rd (W (Proc.tc.devRef main_v2) : Vec Ideal S4x8192 .bf16) (ix2 b n) : EReal) * c448 := by
  simp only [List.drop_succ_cons, List.drop_zero]
  unfold rd
  after_reads_at
  rfl

theorem toInt_field : ∀ k : Fin 254, (IntOp.addi (4294967170#32) (BitVec.ofNat 32 k.val)).toInt = (k.val : ℤ) - 126 := by
  decide +kernel

theorem two_bits : (Ideal.ofBits .f32 0x40000000#32 : EReal) = 2 := by
  have h := T_pow 128 (by norm_num) (by norm_num)
  norm_num at h
  exact h

theorem sc_v16 (b : Fin 4) (n : Fin 8192) (k : Fin 254) : (StableHlo.after (List.drop 4 hostOps0) W (Proc.tc.devRef main_v16) : Vec Ideal S4x8192x254 .i1) (ix3 b n k) =
    BitVec.ofBool (decide (Ideal.pow 2 (((((k.val : ℤ) - 126 : ℤ) : ℝ)) : EReal) ≤ (rd (W (Proc.tc.devRef main_v2) : Vec Ideal S4x8192 .bf16) (ix2 b n) : EReal) * c448)) := by
  simp only [List.drop_succ_cons, List.drop_zero]
  unfold rd
  after_reads_at
  rw [two_bits, ← toInt_field k]
  rfl

theorem sc_v18 (k : Fin 254) : rd (StableHlo.after (List.drop 4 hostOps0) W (Proc.tc.devRef main_v18) : Vec Ideal S254 .f32) (ix1 k) =
    (((((k.val : ℤ) - 125 : ℤ) : ℝ)) : EReal) := by
  simp only [List.drop_succ_cons, List.drop_zero]
  unfold rd
  after_reads_at
  have h : (FloatOps.sitofp (F := Ideal) .f32 (IntOp.addi (4294967170#32) (BitVec.ofNat 32 k.val)) : EReal) = (((((k.val : ℤ) - 126 : ℤ) : ℝ)) : EReal) := by
    rw [← toInt_field k]
    rfl
  rw [h, ← EReal.coe_one, ← EReal.coe_add]
  refine congrArg (fun r : ℝ => (r : EReal)) ?_
  push_cast
  ring

theorem sc_cst3 : rd (StableHlo.after (List.drop 4 hostOps0) W (Proc.tc.devRef main_cst_3) : Vec Ideal S_ .f32) ix0 = (⊥ : EReal) := by
  simp only [List.drop_succ_cons, List.drop_zero]
  unfold rd
  after_reads_at
  exact bot_bits

theorem sc_v0 : StableHlo.after (List.drop 4 hostOps0) W (Proc.tc.devRef main_v0) = W (Proc.tc.devRef main_v0) := by
  simp only [List.drop_succ_cons, List.drop_zero]
  after_reads_simp

/-! ## The search for the exponent -/

theorem s1_v19 (b : Fin 4) (n : Fin 8192) (k : Fin 254) : rd (StableHlo.after hostOps0_1 W (Proc.tc.devRef main_v19) : Vec Ideal S4x8192x254 .f32) (ix3 b n k) =
    Scalar.select ((W (Proc.tc.devRef main_v16) : Vec Ideal S4x8192x254 .i1) (ix3 b n k)) (rd (W (Proc.tc.devRef main_v18) : Vec Ideal S254 .f32) (ix1 k) : EReal)
      (rd (W (Proc.tc.devRef main_cst_3) : Vec Ideal S_ .f32) ix0 : EReal) := by
  unfold rd
  after_reads_at
  rfl

theorem s1_v5 : StableHlo.after hostOps0_1 W (Proc.tc.devRef main_v5) = W (Proc.tc.devRef main_v5) := by after_reads_simp
theorem s1_v0 : StableHlo.after hostOps0_1 W (Proc.tc.devRef main_v0) = W (Proc.tc.devRef main_v0) := by after_reads_simp

theorem s2_v20 (b : Fin 4) (n : Fin 8192) : rd (StableHlo.after hostOps0_2 W (Proc.tc.devRef main_v20) : Vec Ideal S4x8192 .f32) (ix2 b n) =
    Finset.univ.sup fun k : Fin 254 => (rd (W (Proc.tc.devRef main_v19) : Vec Ideal S4x8192x254 .f32) (ix3 b n k) : EReal) := by
  unfold rd
  after_reads_at
  refine eq_of_forall_ge_iff fun M => ?_
  rw [Finset.fold_max_le, Finset.sup_le_iff]
  exact and_iff_right (by rw [bot_bits]; exact bot_le)

theorem s2_v25 (b : Fin 4) (n : Fin 8192) : (StableHlo.after hostOps0_2 W (Proc.tc.devRef main_v25) : Vec Ideal S4x8192 .i1) (ix2 b n) =
    IntOp.andi (BitVec.ofBool (decide (Ideal.ofBits .f32 0x00800000#32 ≤ (rd (W (Proc.tc.devRef main_v5) : Vec Ideal S4x8192 .f32) (ix2 b n) : EReal))))
      (BitVec.ofBool (decide ((rd (W (Proc.tc.devRef main_v5) : Vec Ideal S4x8192 .f32) (ix2 b n) : EReal) < Ideal.ofBits .f32 0x7F800000#32))) := by
  unfold rd
  after_reads_at

theorem s2_cst7 : rd (StableHlo.after hostOps0_2 W (Proc.tc.devRef main_cst_7) : Vec Ideal S_ .f32) ix0 = (0 : EReal) := by unfold rd; after_reads_at
theorem s2_v0 : StableHlo.after hostOps0_2 W (Proc.tc.devRef main_v0) = W (Proc.tc.devRef main_v0) := by after_reads_simp

theorem s3_v26 (b : Fin 4) (n : Fin 8192) : rd (StableHlo.after hostOps0_3 W (Proc.tc.devRef main_v26) : Vec Ideal S4x8192 .f32) (ix2 b n) =
    Scalar.select ((W (Proc.tc.devRef main_v25) : Vec Ideal S4x8192 .i1) (ix2 b n)) (rd (W (Proc.tc.devRef main_v20) : Vec Ideal S4x8192 .f32) (ix2 b n) : EReal)
      (rd (W (Proc.tc.devRef main_cst_7) : Vec Ideal S_ .f32) ix0 : EReal) := by
  unfold rd
  after_reads_at
  rfl
theorem s3_v0 : StableHlo.after hostOps0_3 W (Proc.tc.devRef main_v0) = W (Proc.tc.devRef main_v0) := by after_reads_simp

/-! ## The scales and the codes -/

theorem s4_v29 (b : Fin 4) (n : Fin 8192) : rd (StableHlo.after hostOps0_4 W (Proc.tc.devRef main_v29) : Vec Ideal S4x1x8192 .f32) (ix3 b 0 n) =
    Ideal.pow 2 (rd (W (Proc.tc.devRef main_v26) : Vec Ideal S4x8192 .f32) (ix2 b n)) := by
  unfold rd
  after_reads_at
  rw [two_bits]
theorem s4_v28 (b : Fin 4) (n : Fin 8192) : rd (StableHlo.after hostOps0_4 W (Proc.tc.devRef main_v28) : Vec Ideal S4x8192 .f32) (ix2 b n) =
    Ideal.pow 2 (rd (W (Proc.tc.devRef main_v26) : Vec Ideal S4x8192 .f32) (ix2 b n)) := by
  unfold rd
  after_reads_at
  rw [two_bits]
theorem s4_v36 (b : Fin 4) (ch : Fin 8) (n : Fin 8192) (p : Fin 576) : rd (StableHlo.after hostOps0_4 W (Proc.tc.devRef main_v36) : Vec Ideal S4x8x8192x576 .f32) (ix4 b ch n p) =
    (rd (W (Proc.tc.devRef main_v0) : Vec Ideal S4x8x8192x576 .bf16) (ix4 b ch n p) : EReal) * Ideal.pow 2 (-(rd (W (Proc.tc.devRef main_v26) : Vec Ideal S4x8192 .f32) (ix2 b n) : EReal)) := by
  unfold rd
  after_reads_at
  rw [two_bits]
theorem s4_cst10 : rd (StableHlo.after hostOps0_4 W (Proc.tc.devRef main_cst_10) : Vec Ideal S_ .f32) ix0 = Ideal.ofBits .f32 0xC3E00000#32 := by unfold rd; after_reads_at
theorem s4_cst11 : rd (StableHlo.after hostOps0_4 W (Proc.tc.devRef main_cst_11) : Vec Ideal S_ .f32) ix0 = Ideal.ofBits .f32 0x43E00000#32 := by unfold rd; after_reads_at

theorem s5_v37 (b : Fin 4) (ch : Fin 8) (n : Fin 8192) (p : Fin 576) : rd (StableHlo.after hostOps0_5 W (Proc.tc.devRef main_v37) : Vec Ideal S4x8x8192x576 .f32) (ix4 b ch n p) =
    min (rd (W (Proc.tc.devRef main_cst_11) : Vec Ideal S_ .f32) ix0 : EReal) (max (rd (W (Proc.tc.devRef main_cst_10) : Vec Ideal S_ .f32) ix0 : EReal)
      (rd (W (Proc.tc.devRef main_v36) : Vec Ideal S4x8x8192x576 .f32) (ix4 b ch n p))) := by
  unfold rd
  after_reads_at
  rfl
theorem s5_v28 : StableHlo.after hostOps0_5 W (Proc.tc.devRef main_v28) = W (Proc.tc.devRef main_v28) := by after_reads_simp
theorem s5_v29 : StableHlo.after hostOps0_5 W (Proc.tc.devRef main_v29) = W (Proc.tc.devRef main_v29) := by after_reads_simp

theorem s6_v29 : StableHlo.after hostOps0_6 W (Proc.tc.devRef main_v29) = W (Proc.tc.devRef main_v29) := by after_reads_simp
theorem s6_v39 (b : Fin 4) (n : Fin 8192) (q : Fin 4608) : rd (StableHlo.after hostOps0_6 W (Proc.tc.devRef main_v39) : Vec Ideal S4x8192x4608 .f32) (ix3 b n q) =
    rd (W (Proc.tc.devRef main_v37) : Vec Ideal S4x8x8192x576 .f32) (ix4 b ⟨q.val / 576, by omega⟩ n ⟨q.val % 576, by omega⟩) := by unfold rd; after_reads_at
theorem s6_v40 (b : Fin 4) (n : Fin 8192) : rd (StableHlo.after hostOps0_6 W (Proc.tc.devRef main_v40) : Vec Ideal S4x8192x1 .f32) (ix3 b n 0) =
    rd (W (Proc.tc.devRef main_v28) : Vec Ideal S4x8192 .f32) (ix2 b n) := by unfold rd; after_reads_at
theorem s6_v41 (o : Fin 3072) : rd (StableHlo.after hostOps0_6 W (Proc.tc.devRef main_v41) : Vec Ideal S1x1x3072 .f32) (ix3 0 0 o) =
    rd (W (Proc.tc.devRef main_arg2) : Vec Ideal S3072 .f32) (ix1 o) := by unfold rd; after_reads_at
theorem s6_v42 (o : Fin 3072) : rd (StableHlo.after hostOps0_6 W (Proc.tc.devRef main_v42) : Vec Ideal S1x1x3072 .f32) (ix3 0 0 o) =
    rd (W (Proc.tc.devRef main_arg3) : Vec Ideal S3072 .f32) (ix1 o) := by unfold rd; after_reads_at
theorem s6_arg2 : StableHlo.after hostOps0_6 W (Proc.tc.devRef main_arg2) = W (Proc.tc.devRef main_arg2) := by after_reads_simp
theorem s6_arg3 : StableHlo.after hostOps0_6 W (Proc.tc.devRef main_arg3) = W (Proc.tc.devRef main_arg3) := by after_reads_simp
end Line

/-! ## The arrays the product is called on -/

variable (m : (ℓ : Loc nD τ sig) → Buf (Elt Ideal) ℓ)

/-- The arguments, by their coordinates. -/
def argX (c : Dev nD) (b : Fin 4) (ch : Fin 8) (k : Fin 4718592) : EReal := rd (m ((c.tc : Thread nD τ).loc main_arg0) : Vec Ideal S4x8x4718592 .bf16) (ix3 b ch k)

def argW (c : Dev nD) (q : Fin 4608) (o : Fin 3072) : EReal := rd (m ((c.tc : Thread nD τ).loc main_arg1) : Vec Ideal S4608x3072 .fp8e4m3) (ix2 q o)
def argS (c : Dev nD) (o : Fin 3072) : EReal := rd (m ((c.tc : Thread nD τ).loc main_arg2) : Vec Ideal S3072 .f32) (ix1 o)
def argB (c : Dev nD) (o : Fin 3072) : EReal := rd (m ((c.tc : Thread nD τ).loc main_arg3) : Vec Ideal S3072 .f32) (ix1 o)
def argP (c : Dev nD) (n : Fin 8192) (o : Fin 3072) : EReal := rd (m ((c.tc : Thread nD τ).loc main_arg4) : Vec Ideal S8192x3072 .bf16) (ix2 n o)

theorem V_eq (c : Dev nD) (r : Ref sig .tc) : V m c r =
    StableHlo.after hostOps0_6 (StableHlo.after hostOps0_5 (StableHlo.after hostOps0_4 (StableHlo.after hostOps0_3 (StableHlo.after hostOps0_2 (StableHlo.after hostOps0_1
      (StableHlo.after (List.drop 4 hostOps0) (StableHlo.after (List.take 1 (List.drop 3 hostOps0)) (StableHlo.after (List.take 3 hostOps0) (fun b => m (c, b)))))))))) (Proc.tc.devRef r) := by
  rfl

/-- The contents after the first maximum. -/
def U2 (c : Dev nD) : Valuation τ sig (Elt Ideal) :=
  StableHlo.after (List.take 1 (List.drop 3 hostOps0)) (StableHlo.after (List.take 3 hostOps0) (fun b => m (c, b)))

theorem U2_v2 (c : Dev nD) (b : Fin 4) (n : Fin 8192) : (rd (U2 m c (Proc.tc.devRef main_v2) : Vec Ideal S4x8192 .bf16) (ix2 b n) : EReal) = amax (Spec.token (argX m c) b n) := by
  refine eq_of_forall_ge_iff fun M => ?_
  unfold U2
  rw [sb_v2, red_le, amax_le, sa_cst, bot16]
  refine (and_iff_right bot_le).trans (forall_congr' fun ch => forall_congr' fun p => ?_)
  rw [sa_v1]
  have e : (⟨n.val * 576 + p.val, by omega⟩ : Fin 4718592) = ⟨576 * n.val + p.val, by omega⟩ := Fin.ext (by show n.val * 576 + p.val = 576 * n.val + p.val; omega)
  rw [e]
  rfl

theorem U2_v0 (c : Dev nD) (b : Fin 4) (ch : Fin 8) (n : Fin 8192) (p : Fin 576) :
    (rd (U2 m c (Proc.tc.devRef main_v0) : Vec Ideal S4x8x8192x576 .bf16) (ix4 b ch n p) : EReal) = Spec.token (argX m c) b n ch p := by
  unfold U2
  rw [sb_v0, sa_v0]
  have e : (⟨n.val * 576 + p.val, by omega⟩ : Fin 4718592) = ⟨576 * n.val + p.val, by omega⟩ := Fin.ext (by show n.val * 576 + p.val = 576 * n.val + p.val; omega)
  rw [e]
  rfl

/-- The contents after the exponents. -/
def U4 (c : Dev nD) : Valuation τ sig (Elt Ideal) :=
  StableHlo.after hostOps0_3 (StableHlo.after hostOps0_2 (StableHlo.after hostOps0_1 (StableHlo.after (List.drop 4 hostOps0) (U2 m c))))

theorem select_ofBool (p : Prop) [Decidable p] (x y : EReal) : Scalar.select (BitVec.ofBool (decide p)) x y = if p then x else y := by
  by_cases h : p <;> simp [h, Scalar.select]

theorem select_and (p q : Prop) [Decidable p] [Decidable q] (x y : EReal) :
    Scalar.select (IntOp.andi (BitVec.ofBool (decide p)) (BitVec.ofBool (decide q))) x y = if p ∧ q then x else y := by
  by_cases h : p <;> by_cases h' : q <;> simp [h, h', Scalar.select, IntOp.andi]

theorem U4_v26 (c : Dev nD) (b : Fin 4) (n : Fin 8192) : (rd (U4 m c (Proc.tc.devRef main_v26) : Vec Ideal S4x8192 .f32) (ix2 b n) : EReal) = rExp (Spec.quot (argX m c) b n) := by
  unfold U4
  rw [s3_v26, s2_v25, s2_cst7, s2_v20, s1_v5, sc_v5, U2_v2, select_and]
  unfold rExp Spec.quot
  refine if_congr Iff.rfl (Finset.sup_congr rfl fun k _ => ?_) rfl
  rw [s1_v19, sc_v16, sc_v18, sc_cst3, U2_v2, select_ofBool]

theorem U4_v0 (c : Dev nD) : U4 m c (Proc.tc.devRef main_v0) = U2 m c (Proc.tc.devRef main_v0) := by
  unfold U4
  rw [s3_v0, s2_v0, s1_v0, sc_v0]

theorem V_U4 (c : Dev nD) (r : Ref sig .tc) : V m c r =
    StableHlo.after hostOps0_6 (StableHlo.after hostOps0_5 (StableHlo.after hostOps0_4 (U4 m c))) (Proc.tc.devRef r) := V_eq m c r

/-- The scales, the third result. -/
theorem V_v29 (c : Dev nD) (b : Fin 4) (n : Fin 8192) : (rd (V m c main_v29 : Vec Ideal S4x1x8192 .f32) (ix3 b 0 n) : EReal) = Ideal.pow 2 (rExp (Spec.quot (argX m c) b n)) := by
  rw [V_U4, s6_v29, s5_v29, s4_v29, U4_v26]

/-- The scales, as the product takes them. -/
theorem V_v40 (c : Dev nD) (b : Fin 4) (n : Fin 8192) : (rd (V m c main_v40 : Vec Ideal S4x8192x1 .f32) (ix3 b n 0) : EReal) = Ideal.pow 2 (rExp (Spec.quot (argX m c) b n)) := by
  rw [V_U4, s6_v40, s5_v28, s4_v28, U4_v26]

/-- The scaled and clipped samples. -/
theorem V_v39 (c : Dev nD) (b : Fin 4) (n : Fin 8192) (q : Fin 4608) : (rd (V m c main_v39 : Vec Ideal S4x8192x4608 .f32) (ix3 b n q) : EReal) =
    clip (Spec.token (argX m c) b n ⟨q.val / 576, by omega⟩ ⟨q.val % 576, by omega⟩ * Ideal.pow 2 (-(rExp (Spec.quot (argX m c) b n)))) := by
  rw [V_U4, s6_v39, s5_v37, s4_cst10, s4_cst11, s4_v36, U4_v26, U4_v0, U2_v0]
  rfl

/-- The weight scales and the biases, as the product takes them. -/
theorem V_v41 (c : Dev nD) (o : Fin 3072) : rd (V m c main_v41 : Vec Ideal S1x1x3072 .f32) (ix3 0 0 o) = argS m c o := by
  have h := V_main_arg2 m c
  rw [V_U4, s6_arg2] at h
  rw [V_U4, s6_v41, h]
  rfl

theorem V_v42 (c : Dev nD) (o : Fin 3072) : rd (V m c main_v42 : Vec Ideal S1x1x3072 .f32) (ix3 0 0 o) = argB m c o := by
  have h := V_main_arg3 m c
  rw [V_U4, s6_arg3] at h
  rw [V_U4, s6_v42, h]
  rfl

end Cert.Proof.RI
end
-- ==== Proof.ReferenceBlocks.lean ====
module

public import proofs.«01_k».proof.Proof.ReferenceArrays
public import Idealize.ShloMosaic.Lib.Pipeline.ValueKit

@[expose] public section

set_option maxRecDepth 16384

noncomputable section

/-! The reference's product at a coordinate, and the blocks it is called on: every window is its whole array. -/

namespace Cert.Proof.RI

open Cert.ReferenceIdeal Cert.ReferenceIdeal.Gen
open Idealize.ShloMosaic Idealize.ShloMosaic.TcCoe Idealize.SL.Sem
open Idealize.ShloMosaic.Pipeline (Dat)
open Cert.Proof.Scal Cert.Proof.KI

/-! ## The product's body at a coordinate -/

theorem pay1_apply (x : Vec Ideal S4x8192x4608 .f32) (b : Fin 4) (n : Fin 8192) (q : Fin 4608) : rd (k0_pay1 x) (ix3 b n q) = rd x (ix3 b n q) := by
  unfold rd k0_pay1
  pointwise

theorem pay2_apply (x : Vec Ideal S4x8192x4608 .f32) (w : Vec Ideal S4608x3072 .fp8e4m3) (s : Vec Ideal S4x8192x1 .f32) (ws bb : Vec Ideal S1x1x3072 .f32)
    (p : Vec Ideal S8192x3072 .bf16) (b : Fin 4) (n : Fin 8192) (o : Fin 3072) : rd (k0_pay2 x w s ws bb p) (ix3 b n o) =
      (∑ q : Fin 4608, rd x (ix3 b n q) * rd w (ix2 q o)) * rd s (ix3 b n 0) * rd ws (ix3 0 0 o) + rd bb (ix3 0 0 o) + rd p (ix2 n o) := by
  unfold rd k0_pay2 k0_pay1
  pointwise

variable (m : (ℓ : Loc nD τ sig) → Buf (Elt Ideal) ℓ) (ρ : Dev nD → PrngReg)

/-! ## Every window is its whole array -/

theorem iblk0 (c : Dev nD) (t : Fin cfg0.N) : (iblk m c 0 t : Vec Ideal S4x8192x4608 .f32) = V m c main_v39 := by
  funext (i : S4x8192x4608.Idx)
  refine congrArg (V m c main_v39) (funext fun x => Fin.ext ?_)
  match x with
  | ⟨0, _⟩ => show 0 * 4 + 1 * (i 0).val = (i 0).val; omega
  | ⟨1, _⟩ => show 0 * 8192 + 1 * (i 1).val = (i 1).val; omega
  | ⟨2, _⟩ => show 0 * 4608 + 1 * (i 2).val = (i 2).val; omega

theorem iblk1 (c : Dev nD) (t : Fin cfg0.N) : (iblk m c 1 t : Vec Ideal S4608x3072 .fp8e4m3) = V m c main_arg1 := by
  funext (i : S4608x3072.Idx)
  refine congrArg (V m c main_arg1) (funext fun x => Fin.ext ?_)
  match x with
  | ⟨0, _⟩ => show 0 * 4608 + 1 * (i 0).val = (i 0).val; omega
  | ⟨1, _⟩ => show 0 * 3072 + 1 * (i 1).val = (i 1).val; omega

theorem iblk3 (c : Dev nD) (t : Fin cfg0.N) : (iblk m c 3 t : Vec Ideal S1x1x3072 .f32) = V m c main_v41 := by
  funext (i : S1x1x3072.Idx)
  refine congrArg (V m c main_v41) (funext fun x => Fin.ext ?_)
  match x with
  | ⟨0, _⟩ => show 0 * 1 + 1 * (i 0).val = (i 0).val; omega
  | ⟨1, _⟩ => show 0 * 1 + 1 * (i 1).val = (i 1).val; omega
  | ⟨2, _⟩ => show 0 * 3072 + 1 * (i 2).val = (i 2).val; omega

theorem iblk4 (c : Dev nD) (t : Fin cfg0.N) : (iblk m c 4 t : Vec Ideal S1x1x3072 .f32) = V m c main_v42 := by
  funext (i : S1x1x3072.Idx)
  refine congrArg (V m c main_v42) (funext fun x => Fin.ext ?_)
  match x with
  | ⟨0, _⟩ => show 0 * 1 + 1 * (i 0).val = (i 0).val; omega
  | ⟨1, _⟩ => show 0 * 1 + 1 * (i 1).val = (i 1).val; omega
  | ⟨2, _⟩ => show 0 * 3072 + 1 * (i 2).val = (i 2).val; omega

theorem iblk5 (c : Dev nD) (t : Fin cfg0.N) : (iblk m c 5 t : Vec Ideal S8192x3072 .bf16) = V m c main_arg4 := by
  funext (i : S8192x3072.Idx)
  refine congrArg (V m c main_arg4) (funext fun x => Fin.ext ?_)
  match x with
  | ⟨0, _⟩ => show 0 * 8192 + 1 * (i 0).val = (i 0).val; omega
  | ⟨1, _⟩ => show 0 * 3072 + 1 * (i 1).val = (i 1).val; omega

theorem blk6 (t : Fin cfg0.N) (G : Vec Ideal S4x8192x3072 .bf16) : ((cfg0.win 6).blk t).view.read (Elt Ideal) G = G := by
  funext (i : S4x8192x3072.Idx)
  refine congrArg G (funext fun x => Fin.ext ?_)
  match x with
  | ⟨0, _⟩ => show 0 * 4 + 1 * (i 0).val = (i 0).val; omega
  | ⟨1, _⟩ => show 0 * 8192 + 1 * (i 1).val = (i 1).val; omega
  | ⟨2, _⟩ => show 0 * 3072 + 1 * (i 2).val = (i 2).val; omega

theorem blk7 (t : Fin cfg0.N) (G : Vec Ideal S4x8192x4608 .fp8e4m3) : ((cfg0.win 7).blk t).view.read (Elt Ideal) G = G := by
  funext (i : S4x8192x4608.Idx)
  refine congrArg G (funext fun x => Fin.ext ?_)
  match x with
  | ⟨0, _⟩ => show 0 * 4 + 1 * (i 0).val = (i 0).val; omega
  | ⟨1, _⟩ => show 0 * 8192 + 1 * (i 1).val = (i 1).val; omega
  | ⟨2, _⟩ => show 0 * 4608 + 1 * (i 2).val = (i 2).val; omega

theorem out6_eq (x0 : Vec Ideal S4x8192x4608 .f32) (x1 : Vec Ideal S4608x3072 .fp8e4m3) (x2 : Vec Ideal S4x8192x1 .f32) (x3 x4 : Vec Ideal S1x1x3072 .f32)
    (x5 : Vec Ideal S8192x3072 .bf16) : out0_6 x0 x1 x2 x3 x4 x5 = k0_pay2 x0 x1 x2 x3 x4 x5 := by
  unfold out0_6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

theorem out7_eq (x0 : Vec Ideal S4x8192x4608 .f32) (x1 : Vec Ideal S4608x3072 .fp8e4m3) (x2 : Vec Ideal S4x8192x1 .f32) (x3 x4 : Vec Ideal S1x1x3072 .f32)
    (x5 : Vec Ideal S8192x3072 .bf16) : out0_7 x0 x1 x2 x3 x4 x5 = k0_pay1 x0 := by
  unfold out0_7
  rw [View.canon_cons_unit_lit _ _ _ (by decide), View.ld_unit_lit _ _ (by decide)]

end Cert.Proof.RI
end
-- ==== Proof.ReferenceScale.lean ====
module

public import proofs.«01_k».proof.Proof.ReferenceArrays
public import Idealize.ShloMosaic.Lib.Pipeline.ValueKit

@[expose] public section

set_option maxRecDepth 16384

noncomputable section

/-! The block of scales the reference's product is called on. -/

namespace Cert.Proof.RI

open Cert.ReferenceIdeal Cert.ReferenceIdeal.Gen
open Idealize.ShloMosaic Idealize.ShloMosaic.TcCoe Idealize.SL.Sem
open Idealize.ShloMosaic.Pipeline (Dat)
open Cert.Proof.Scal Cert.Proof.KI

theorem blk2 (t : Fin cfg0.N) (G : Vec Ideal S4x8192x1 .f32) : ((cfg0.win 2).blk t).view.read (Elt Ideal) G = G := by
  funext (i : S4x8192x1.Idx)
  refine congrArg G (funext fun x => Fin.ext ?_)
  match x with
  | ⟨0, _⟩ => show 0 * 4 + 1 * (i 0).val = (i 0).val; omega
  | ⟨1, _⟩ => show 0 * 8192 + 1 * (i 1).val = (i 1).val; omega
  | ⟨2, _⟩ => show 0 * 1 + 1 * (i 2).val = (i 2).val; omega

variable (m : (ℓ : Loc nD τ sig) → Buf (Elt Ideal) ℓ) (ρ : Dev nD → PrngReg)

theorem iblk2 (c : Dev nD) (t : Fin cfg0.N) (b : Fin 4) (n : Fin 8192) :
    rd (iblk m c 2 t : Vec Ideal S4x8192x1 .f32) (ix3 b n 0) = rd (V m c main_v40 : Vec Ideal S4x8192x1 .f32) (ix3 b n 0) := by
  have e : (iblk m c 2 t : Vec Ideal S4x8192x1 .f32) = V m c main_v40 := by
    unfold iblk
    exact blk2 t (V m c main_v40)
  rw [e]

end Cert.Proof.RI
end
-- ==== Proof.Range.lean ====
module

public import proofs.«01_k».proof.Proof.Spec
public import proofs.«01_k».proof.Pre_bf16_range

@[expose] public section

set_option maxRecDepth 16384

noncomputable section

/-! The precondition read: no token's greatest magnitude over 448 lies between `2 ^ 126` and infinity; so the kernel's scale and
    inverse scale are the reference's powers of two. -/

namespace Cert.Proof.Range

open Idealize.ShloMosaic Cert.Proof.KI Cert.Proof.Scal

instance facts : Cert.Pre_bf16_range.Facts where
  bcast_S_S4x8x4718592 := by decide

/-- The largest finite bf16 magnitude. -/
def top16 : EReal := Ideal.ofBits .bf16 0x7F7F#16

theorem top16_eq : top16 = (((255 : ℝ) * 2 ^ 120 : ℝ) : EReal) := by
  have h1 : ((0x7F7F#16).extractLsb' 7 8).toNat = 254 := by decide
  have h2 : ((0x7F7F#16).extractLsb' 0 7).toNat = 127 := by decide
  have h3 : ((0x7F7F#16).extractLsb' 15 1 == 1#1) = false := by decide
  simp only [top16, Ideal.ofBits, Ideal.ieee, show 8 + 7 = 15 from rfl]
  rw [h1, h2, h3, if_neg (by omega), if_neg (by omega)]
  norm_num

theorem c448_eq : c448 = (((9586981 : ℝ) / 2 ^ 32 : ℝ) : EReal) := by
  have h1 : ((0x3B124925#32).extractLsb' 23 8).toNat = 118 := by decide
  have h2 : ((0x3B124925#32).extractLsb' 0 23).toNat = 1198373 := by decide
  have h3 : ((0x3B124925#32).extractLsb' 31 1 == 1#1) = false := by decide
  simp only [c448, Ideal.ofBits, Ideal.ieee, show 8 + 23 = 31 from rfl]
  rw [h1, h2, h3, if_neg (by omega), if_neg (by omega)]
  norm_num [zpow_neg]

/-- An array whose magnitudes are infinite or at most the largest finite bf16 number. -/
def InRange (A : Fin 4 → Fin 8 → Fin 4718592 → EReal) : Prop := ∀ b ch k, ab (A b ch k) ≤ top16 ∨ ab (A b ch k) = ⊤

theorem pre_inRange (x : FVec Ideal Pre_bf16_range.S4x8x4718592 .bf16) (w : FVec Ideal Pre_bf16_range.S4608x3072 .fp8e4m3)
    (ws bb : FVec Ideal Pre_bf16_range.S3072 .f32) (p : FVec Ideal Pre_bf16_range.S8192x3072 .bf16)
    (h : Cert.Pre_bf16_range.fn (F := Ideal) x w ws bb p = fun _ => 1#1) : InRange fun b ch k => x (ix3 b ch k) := by
  intro b ch k
  have hk : IntOp.ori (BitVec.ofBool (decide (ab (x (ix3 b ch k)) ≤ top16)))
      (BitVec.ofBool (decide (ab (x (ix3 b ch k)) = Ideal.ofBits .bf16 0x7F80#16))) = 1#1 := congrFun h (ix3 b ch k)
  have ht : Ideal.ofBits .bf16 0x7F80#16 = ⊤ := by simp [Ideal.ofBits, Ideal.ieee]
  rw [ht] at hk
  by_cases h1 : ab (x (ix3 b ch k)) ≤ top16
  · exact .inl h1
  by_cases h2 : ab (x (ix3 b ch k)) = ⊤
  · exact .inr h2
  · simp [h1, h2, IntOp.ori] at hk

theorem quot_nonneg (A : Fin 4 → Fin 8 → Fin 4718592 → EReal) (b : Fin 4) (n : Fin 8192) : 0 ≤ Spec.quot A b n :=
  mul_nonneg (amax_nonneg _) c448_nonneg

theorem quot_range (A : Fin 4 → Fin 8 → Fin 4718592 → EReal) (hA : InRange A) (b : Fin 4) (n : Fin 8192) :
    Spec.quot A b n < thr 253 ∨ Spec.quot A b n = ⊤ := by
  unfold Spec.quot
  by_cases h : ∃ ch p, ab (Spec.token A b n ch p) = ⊤
  · obtain ⟨ch, p, h⟩ := h
    right
    have e : amax (Spec.token A b n) = ⊤ := top_le_iff.1 (h ▸ (amax_le _ _).1 le_rfl ch p)
    rw [e, c448_eq]
    exact EReal.top_mul_coe_of_pos (by norm_num)
  · left
    have e : amax (Spec.token A b n) ≤ top16 := (amax_le _ _).2 fun ch p => (hA b ch _).resolve_right fun hc => h ⟨ch, p, hc⟩
    refine lt_of_le_of_lt (mul_le_mul_of_nonneg_right e c448_nonneg) ?_
    rw [top16_eq, c448_eq, T_pow 253 (by omega) (by omega), ← EReal.coe_mul, EReal.coe_lt_coe_iff]
    norm_num

/-! ## The three results, as the reference computes them -/

/-- The codes of a token, by the reference's power of two. -/
def code (A : Fin 4 → Fin 8 → Fin 4718592 → EReal) (b : Fin 4) (n : Fin 8192) (q : Fin 4608) : EReal :=
  clip (Spec.token A b n ⟨q.val / 576, by omega⟩ ⟨q.val % 576, by omega⟩ * Ideal.pow 2 (-(rExp (Spec.quot A b n))))

/-- The output at a token and a column, by the reference's power of two. -/
def out (A : Fin 4 → Fin 8 → Fin 4718592 → EReal) (w : Fin 4608 → Fin 3072 → EReal) (ws bb : Fin 3072 → EReal) (p : Fin 8192 → Fin 3072 → EReal)
    (b : Fin 4) (n : Fin 8192) (o : Fin 3072) : EReal :=
  (∑ q : Fin 4608, code A b n q * w q o) * Ideal.pow 2 (rExp (Spec.quot A b n)) * ws o + bb o + p n o

variable (A : Fin 4 → Fin 8 → Fin 4718592 → EReal) (hA : InRange A) (b : Fin 4) (n : Fin 8192)
include hA

theorem scale_eq : kScale (Spec.quot A b n) = Ideal.pow 2 (rExp (Spec.quot A b n)) := kScale_eq _ (quot_nonneg A b n) (quot_range A hA b n)

theorem code_eq (q : Fin 4608) : Spec.code A b n q = code A b n q := by
  unfold Spec.code code
  rw [kInv_eq _ (quot_nonneg A b n) (quot_range A hA b n)]

theorem out_eq (w : Fin 4608 → Fin 3072 → EReal) (ws bb : Fin 3072 → EReal) (p : Fin 8192 → Fin 3072 → EReal) (o : Fin 3072) :
    Spec.out A w ws bb p b n o = out A w ws bb p b n o := by
  unfold Spec.out out
  rw [scale_eq A hA]
  simp only [code_eq A hA]

end Cert.Proof.Range
end
-- ==== Proof.ReferenceValue.lean ====
module

public import proofs.«01_k».proof.Proof.ReferenceBlocks
public import proofs.«01_k».proof.Proof.ReferenceScale
public import proofs.«01_k».proof.Proof.Range
public import proofs.«01_k».proof.Proof.Gen.ReferenceIdeal.Value

@[expose] public section

set_option maxRecDepth 16384

noncomputable section

/-! The reference's three results after its run, as functions of its arguments. -/

namespace Cert.Proof.RI

open Cert.ReferenceIdeal Cert.ReferenceIdeal.Gen
open Idealize.ShloMosaic Idealize.ShloMosaic.TcCoe Idealize.SL.Sem
open Idealize.ShloMosaic.Pipeline (Dat)
open Cert.Proof.Scal Cert.Proof.KI

variable (m : (ℓ : Loc nD τ sig) → Buf (Elt Ideal) ℓ) (ρ : Dev nD → PrngReg)

/-! ## The result arrays -/

def res6 (c : Dev nD) : Vec Ideal S4x8192x3072 .bf16 := fun j => Range.out (argX m c) (argW m c) (argS m c) (argB m c) (argP m c) (j 0) (j 1) (j 2)
def res7 (c : Dev nD) : Vec Ideal S4x8192x4608 .fp8e4m3 := fun j => Range.code (argX m c) (j 0) (j 1) (j 2)
def res29 (c : Dev nD) : Vec Ideal S4x1x8192 .f32 := fun j => Ideal.pow 2 (rExp (Spec.quot (argX m c) (j 0) (j 2)))

theorem pay1_eq (c : Dev nD) : (k0_pay1 (V m c main_v39 : Vec Ideal S4x8192x4608 .f32) : Vec Ideal S4x8192x4608 .fp8e4m3) = res7 m c := by
  funext (y : S4x8192x4608.Idx)
  obtain ⟨b, n, q, rfl⟩ : ∃ (b : Fin 4) (n : Fin 8192) (q : Fin 4608), y = ix3 b n q := ⟨y 0, y 1, y 2, by
    funext a; match a with
    | ⟨0, _⟩ => rfl
    | ⟨1, _⟩ => rfl
    | ⟨2, _⟩ => rfl⟩
  exact (pay1_apply _ b n q).trans (V_v39 m c b n q)

theorem pay2_eq (c : Dev nD) (s : Vec Ideal S4x8192x1 .f32) (hs : ∀ (b : Fin 4) (n : Fin 8192), rd s (ix3 b n 0) = rd (V m c main_v40 : Vec Ideal S4x8192x1 .f32) (ix3 b n 0)) :
    (k0_pay2 (V m c main_v39 : Vec Ideal S4x8192x4608 .f32) (V m c main_arg1 : Vec Ideal S4608x3072 .fp8e4m3) s
    (V m c main_v41 : Vec Ideal S1x1x3072 .f32) (V m c main_v42 : Vec Ideal S1x1x3072 .f32) (V m c main_arg4 : Vec Ideal S8192x3072 .bf16) : Vec Ideal S4x8192x3072 .bf16) = res6 m c := by
  funext (y : S4x8192x3072.Idx)
  obtain ⟨b, n, o, rfl⟩ : ∃ (b : Fin 4) (n : Fin 8192) (o : Fin 3072), y = ix3 b n o := ⟨y 0, y 1, y 2, by
    funext a; match a with
    | ⟨0, _⟩ => rfl
    | ⟨1, _⟩ => rfl
    | ⟨2, _⟩ => rfl⟩
  refine (pay2_apply _ _ _ _ _ _ b n o).trans ?_
  rw [hs, V_v40, V_v41, V_v42, V_main_arg1, V_main_arg4]
  refine congrArg (fun z : EReal => z * Ideal.pow 2 (rExp (Spec.quot (argX m c) b n)) * argS m c o + argB m c o + argP m c n o) (Finset.sum_congr rfl fun q _ => ?_)
  exact congrArg (fun z : EReal => z * argW m c q o) (V_v39 m c b n q)

theorem v29_eq (c : Dev nD) : (V m c main_v29 : Vec Ideal S4x1x8192 .f32) = res29 m c := by
  funext (y : S4x1x8192.Idx)
  obtain ⟨b, n, rfl⟩ : ∃ (b : Fin 4) (n : Fin 8192), y = ix3 b 0 n := ⟨y 0, y 2, by
    funext a; match a with
    | ⟨0, _⟩ => rfl
    | ⟨1, _⟩ => exact Subsingleton.elim (α := Fin 1) _ _
    | ⟨2, _⟩ => rfl⟩
  exact V_v29 m c b n

theorem flushed6 (c : Dev nD) (t : Fin cfg0.N) (hf : (cfg0.win 6).flush t = true) :
    (dats m 0 c).flushed 6 t = ((cfg0.win 6).blk t).view.read (Elt Ideal) (res6 m c) := by
  rw [Cert.ReferenceIdeal.Value.flushed6, blk6]
  refine Eq.trans ?_ (pay2_eq m c _ (iblk2 m c t))
  refine Eq.trans (b := out0_6 (iblk m c 0 t) (iblk m c 1 t) (iblk m c 2 t) (iblk m c 3 t) (iblk m c 4 t) (iblk m c 5 t)) rfl ?_
  rw [out6_eq, iblk0, iblk1, iblk3, iblk4, iblk5]

theorem flushed7 (c : Dev nD) (t : Fin cfg0.N) (hf : (cfg0.win 7).flush t = true) :
    (dats m 0 c).flushed 7 t = ((cfg0.win 7).blk t).view.read (Elt Ideal) (res7 m c) := by
  rw [Cert.ReferenceIdeal.Value.flushed7, blk7]
  refine Eq.trans ?_ (pay1_eq m c)
  refine Eq.trans (b := out0_7 (iblk m c 0 t) (iblk m c 1 t) (iblk m c 2 t) (iblk m c 3 t) (iblk m c 4 t) (iblk m c 5 t)) rfl ?_
  rw [out7_eq, iblk0]

def pt0 : Fin cfg0.N := ⟨0, by decide +kernel⟩

theorem final6 (c : Dev nD) : (dats m 0 c).arrAt 6 cfg0.N = res6 m c :=
  (dats m 0 c).arrAt_eq_of_cover 6 (res6 m c) (flushed6 m c) fun (i : S4x8192x3072.Idx) =>
    ⟨pt0, flush0_6 _, by
      show i ∈ ((View.whole main_v43_0).slice (win0_6.rect pt0)).set
      rw [View.set_slice_whole, Rect.mem_set_unit]
      intro a
      match a with
      | ⟨0, _⟩ => exact ⟨(by show 0 * 4 ≤ (i 0).val; omega), (by show (i 0).val < 0 * 4 + 4; have h : (i 0).val < 4 := (i 0).isLt; omega)⟩
      | ⟨1, _⟩ => exact ⟨(by show 0 * 8192 ≤ (i 1).val; omega), (by show (i 1).val < 0 * 8192 + 8192; have h : (i 1).val < 8192 := (i 1).isLt; omega)⟩
      | ⟨2, _⟩ => exact ⟨(by show 0 * 3072 ≤ (i 2).val; omega), (by show (i 2).val < 0 * 3072 + 3072; have h : (i 2).val < 3072 := (i 2).isLt; omega)⟩⟩

theorem final7 (c : Dev nD) : (dats m 0 c).arrAt 7 cfg0.N = res7 m c :=
  (dats m 0 c).arrAt_eq_of_cover 7 (res7 m c) (flushed7 m c) fun (i : S4x8192x4608.Idx) =>
    ⟨pt0, flush0_7 _, by
      show i ∈ ((View.whole main_v43_1).slice (win0_7.rect pt0)).set
      rw [View.set_slice_whole, Rect.mem_set_unit]
      intro a
      match a with
      | ⟨0, _⟩ => exact ⟨(by show 0 * 4 ≤ (i 0).val; omega), (by show (i 0).val < 0 * 4 + 4; have h : (i 0).val < 4 := (i 0).isLt; omega)⟩
      | ⟨1, _⟩ => exact ⟨(by show 0 * 8192 ≤ (i 1).val; omega), (by show (i 1).val < 0 * 8192 + 8192; have h : (i 1).val < 8192 := (i 1).isLt; omega)⟩
      | ⟨2, _⟩ => exact ⟨(by show 0 * 4608 ≤ (i 2).val; omega), (by show (i 2).val < 0 * 4608 + 4608; have h : (i 2).val < 4608 := (i 2).isLt; omega)⟩⟩

/-- The run, read: the three results, and the arguments as launched. -/
theorem run : θ_run defs (onTc (τ := τ) (main (F := Ideal))) ⟨m, fun _ => 0, ρ⟩ fun r => ∀ c : Dev nD,
      r.2.mem ((c.tc : Thread nD τ).loc main_v43_0) = res6 m c
      ∧ r.2.mem ((c.tc : Thread nD τ).loc main_v43_1) = res7 m c
      ∧ r.2.mem ((c.tc : Thread nD τ).loc main_v29) = res29 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(Cert.ReferenceIdeal.Value.post6 m r h c).trans (final6 m c),
      (Cert.ReferenceIdeal.Value.post7 m r h c).trans (final7 m c),
      ((h c).2 main_v29 (Pipeline.mem_restRefs_of main_v29 (by decide) (by decide))).trans (v29_eq m c),
      Cert.ReferenceIdeal.Value.kept_main_arg0 m r h c,
      Cert.ReferenceIdeal.Value.kept_main_arg1 m r h c,
      Cert.ReferenceIdeal.Value.kept_main_arg2 m r h c,
      Cert.ReferenceIdeal.Value.kept_main_arg3 m r h c,
      Cert.ReferenceIdeal.Value.kept_main_arg4 m r h c⟩)
    (run_main m ρ)

end Cert.Proof.RI
end
-- ==== Proof.Equation.lean ====
module

public import proofs.«01_k».proof.Defs
public import proofs.«01_k».proof.Proof.KernelArrays
public import proofs.«01_k».proof.Proof.ReferenceValue
public import proofs.«01_k».proof.Proof.Range

@[expose] public section

set_option maxRecDepth 16384

noncomputable section

/-! The kernel's and the reference's results are equal, from arguments that agree and lie in the range of bf16. -/

namespace Cert.Proof.Equation

open Idealize.ShloMosaic Idealize.ShloMosaic.TcCoe Idealize.SL.Sem

theorem algebraic : Cert.algebraic_KernelIdeal_ReferenceIdeal_pre_bf16_range (hKernelIdeal := Cert.KernelIdeal.Gen.facts)
    (hReferenceIdeal := Cert.ReferenceIdeal.Gen.facts) (hPre_bf16_range := Range.facts) := by
  intro m g m' g' hp ha
  have hR : ∀ c, Range.InRange (KI.argX m c) := fun c => Range.pre_inRange _ _ _ _ _ (hp c)
  have e0 : ∀ c, RI.argX m' c = KI.argX m c := fun c => by
    funext b ch k; exact congrFun (ha c).1 (ix3 b ch k)
  have e1 : ∀ c, RI.argW m' c = KI.argW m c := fun c => by
    funext q o; exact congrFun (ha c).2.1 (ix2 q o)
  have e2 : ∀ c, RI.argS m' c = KI.argS m c := fun c => by
    funext o; exact congrFun (ha c).2.2.1 (ix1 o)
  have e3 : ∀ c, RI.argB m' c = KI.argB m c := fun c => by
    funext o; exact congrFun (ha c).2.2.2.1 (ix1 o)
  have e4 : ∀ c, RI.argP m' c = KI.argP m c := fun c => by
    funext n o; exact congrFun (ha c).2.2.2.2 (ix2 n o)
  have r5 : ∀ c, RI.res6 m' c = KI.res5 m c := fun c => by
    unfold RI.res6 KI.res5
    rw [e0, e1, e2, e3, e4]
    exact funext fun j => (Range.out_eq _ (hR c) _ _ _ _ _ _ _).symm
  have r6 : ∀ c, RI.res7 m' c = KI.res6 m c := fun c => by
    unfold RI.res7 KI.res6
    rw [e0]
    exact funext fun j => (Range.code_eq _ (hR c) _ _ _).symm
  have r7 : ∀ c, RI.res29 m' c = KI.res7 m c := fun c => by
    unfold RI.res29 KI.res7
    rw [e0]
    exact funext fun j => (Range.scale_eq _ (hR c) _ _).symm
  refine ⟨KI.res5 m, KI.res6 m, KI.res7 m, KI.run m g fun c t r => ?_, ?_⟩
  · rw [KI.quo_eq]
    exact Range.quot_range _ (hR c) _ _
  · refine (θ_run _ _ _).mono (fun r h c => ?_) (RI.run m' g')
    obtain ⟨h6, h7, h29, h⟩ := h c
    exact ⟨h6.trans (r5 c), h7.trans (r6 c), h29.trans (r7 c), h⟩

end Cert.Proof.Equation
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.KernelFrame
public import proofs.«01_k».proof.Proof.KernelIdealFrame
public import proofs.«01_k».proof.Proof.Equation
public import Idealize.ShloMosaic.Lib.Bf16Pair
public import Idealize.ShloMosaic.Adequacy
public import Idealize.ShloMosaic.Init

@[expose] public section

noncomputable section

open Idealize.ShloMosaic

theorem Cert.Proof.claim : Cert.Claim :=
  ⟨Cert.Kernel.Gen.facts, Cert.KernelIdeal.Gen.facts, Cert.ReferenceIdeal.Gen.facts, Cert.Proof.Range.facts,
    fun m ρ _ => Cert.Proof.Kernel.framed m ρ,
    fun m ρ _ => Cert.Proof.KernelIdeal.framed m ρ,
    fun m ρ _ => Cert.Proof.KernelIdeal.framed m ρ,
    fun m ρ _ => Cert.ReferenceIdeal.Gen.frame m ρ,
    fun m ρ _ => Cert.ReferenceIdeal.Gen.frame m ρ,
    ⟨IdealRules.bf16_pair.statement Cert.KernelIdeal.S8x2x128 Cert.KernelIdeal.S8x1x128,
      IdealRules.bf16_pair.statement Cert.KernelIdeal.S16x128 Cert.KernelIdeal.S8x128,
      IdealRules.bf16_pair.selectZeroStatement Cert.KernelIdeal.S8x128⟩,
    Cert.Proof.Equation.algebraic⟩

end
